-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S48x2048x24 : Shape := ⟨3, ![48, 2048, 24]⟩
abbrev S48 : Shape := ⟨1, ![48]⟩
abbrev S24x1024x8 : Shape := ⟨3, ![24, 1024, 8]⟩
abbrev S24x8x512 : Shape := ⟨3, ![24, 8, 512]⟩
abbrev S24x512 : Shape := ⟨2, ![24, 512]⟩
abbrev S_ : Shape := ⟨0, ![]⟩

class Facts : Prop where
  bcast_S_S48x2048x24 : S_.BroadcastsInDim S48x2048x24 (![] : Fin 0 → Fin S48x2048x24.rank)
  reducesTo_S48x2048x24_S_d0_1_2 : S48x2048x24.ReducesTo [0, 1, 2] S_
  h_S_ : 0 < S_.numel
  bcast_S_S48 : S_.BroadcastsInDim S48 (![] : Fin 0 → Fin S48.rank)
  reducesTo_S48_S_d0 : S48.ReducesTo [0] S_

variable [Facts]

def fn {F : FTy → Type} [FloatOps F] (main_arg0 : IVec S48x2048x24 32) (main_arg1 : IVec S48 32) (main_arg2 : IVec S24x1024x8 16) (main_arg3 : FVec F S24x8x512 .fp8e4m3) (main_arg4 : FVec F S24x512 .f32) (main_arg5 : FVec F S24x512 .f32) : IVec S_ 1 :=
  let main_c : IVec S_ 32 := constantI S_ 32 0#32
  let main_v0 : IVec S48x2048x24 32 := broadcastInDim S48x2048x24 ![] bcast_S_S48x2048x24 main_c
  let main_v1 : IVec S48x2048x24 1 := cmpi .sge main_arg0 main_v0
  let main_c_0 : IVec S_ 1 := constantI S_ 1 1#1
  let main_v2 : IVec S_ 1 := (fun x v => Host.reduce IntOp.andi x v reducesTo_S48x2048x24_S_d0_1_2 h_S_) main_v1 main_c_0
  let main_c_1 : IVec S_ 32 := constantI S_ 32 1024#32
  let main_v3 : IVec S48x2048x24 32 := broadcastInDim S48x2048x24 ![] bcast_S_S48x2048x24 main_c_1
  let main_v4 : IVec S48x2048x24 1 := cmpi .slt main_arg0 main_v3
  let main_c_2 : IVec S_ 1 := constantI S_ 1 1#1
  let main_v5 : IVec S_ 1 := (fun x v => Host.reduce IntOp.andi x v reducesTo_S48x2048x24_S_d0_1_2 h_S_) main_v4 main_c_2
  let main_v6 : IVec S_ 1 := andi main_v2 main_v5
  let main_c_3 : IVec S_ 32 := constantI S_ 32 0#32
  let main_v7 : IVec S48 32 := broadcastInDim S48 ![] bcast_S_S48 main_c_3
  let main_v8 : IVec S48 1 := cmpi .sge main_arg1 main_v7
  let main_c_4 : IVec S_ 1 := constantI S_ 1 1#1
  let main_v9 : IVec S_ 1 := (fun x v => Host.reduce IntOp.andi x v reducesTo_S48_S_d0 h_S_) main_v8 main_c_4
  let main_v10 : IVec S_ 1 := andi main_v6 main_v9
  let main_c_5 : IVec S_ 32 := constantI S_ 32 24#32
  let main_v11 : IVec S48 32 := broadcastInDim S48 ![] bcast_S_S48 main_c_5
  let main_v12 : IVec S48 1 := cmpi .sle main_arg1 main_v11
  let main_c_6 : IVec S_ 1 := constantI S_ 1 1#1
  let main_v13 : IVec S_ 1 := (fun x v => Host.reduce IntOp.andi x v reducesTo_S48_S_d0 h_S_) main_v12 main_c_6
  let main_v14 : IVec S_ 1 := andi main_v10 main_v13
  main_v14
-- ==== Kernel.lean ====
abbrev S48x2048x24 : Shape := ⟨3, ![48, 2048, 24]⟩
abbrev S48 : Shape := ⟨1, ![48]⟩
abbrev S24x1024x8 : Shape := ⟨3, ![24, 1024, 8]⟩
abbrev S24x8x512 : Shape := ⟨3, ![24, 8, 512]⟩
abbrev S24x512 : Shape := ⟨2, ![24, 512]⟩
abbrev S48x24x2048 : Shape := ⟨3, ![48, 24, 2048]⟩
abbrev S24x8x1024 : Shape := ⟨3, ![24, 8, 1024]⟩
abbrev S48x2048x512 : Shape := ⟨3, ![48, 2048, 512]⟩
abbrev S1x24x1024 : Shape := ⟨3, ![1, 24, 1024]⟩
abbrev S1x1024x512 : Shape := ⟨3, ![1, 1024, 512]⟩
abbrev S768x128 : Shape := ⟨2, ![768, 128]⟩
abbrev S192x512 : Shape := ⟨2, ![192, 512]⟩
abbrev S1x8x1024 : Shape := ⟨3, ![1, 8, 1024]⟩
abbrev S8x1024 : Shape := ⟨2, ![8, 1024]⟩
abbrev S4x1024 : Shape := ⟨2, ![4, 1024]⟩
abbrev S4x128 : Shape := ⟨2, ![4, 128]⟩
abbrev S24x1x512 : Shape := ⟨3, ![24, 1, 512]⟩
abbrev S1 : Shape := ⟨1, ![1]⟩
abbrev S1x1x1024 : Shape := ⟨3, ![1, 1, 1024]⟩
abbrev S1x1024 : Shape := ⟨2, ![1, 1024]⟩
abbrev S8x128 : Shape := ⟨2, ![8, 128]⟩
abbrev S1x128 : Shape := ⟨2, ![1, 128]⟩
abbrev S8x128x1 : Shape := ⟨3, ![8, 128, 1]⟩
abbrev S512 : Shape := ⟨1, ![512]⟩
abbrev S1x512 : Shape := ⟨2, ![1, 512]⟩
abbrev S96x128 : Shape := ⟨2, ![96, 128]⟩
abbrev S192x128 : Shape := ⟨2, ![192, 128]⟩
abbrev S128x512 : Shape := ⟨2, ![128, 512]⟩
abbrev S1x128x512 : Shape := ⟨3, ![1, 128, 512]⟩

abbrev nBuf : Space → Nat
  | .hbm => 8
  | .vmem => 11
  | .smem => 1
  | _ => 0

abbrev bufTy : (tb : Table) → Fin (tcTables nBuf tb) → BufTy
  | .hbm, ⟨0, _⟩ => ⟨S48x2048x24, .i32⟩
  | .hbm, ⟨1, _⟩ => ⟨S24x1024x8, .i16⟩
  | .hbm, ⟨2, _⟩ => ⟨S24x8x512, .fp8e4m3⟩
  | .hbm, ⟨3, _⟩ => ⟨S24x512, .f32⟩
  | .hbm, ⟨4, _⟩ => ⟨S24x512, .f32⟩
  | .hbm, ⟨5, _⟩ => ⟨S48x24x2048, .i32⟩
  | .hbm, ⟨6, _⟩ => ⟨S24x8x1024, .i16⟩
  | .hbm, ⟨7, _⟩ => ⟨S48x2048x512, .bf16⟩
  | .local _ .vmem, ⟨0, _⟩ => ⟨S1x24x1024, .i32⟩
  | .local _ .vmem, ⟨1, _⟩ => ⟨S1x24x1024, .i32⟩
  | .local _ .vmem, ⟨2, _⟩ => ⟨S24x8x1024, .i16⟩
  | .local _ .vmem, ⟨3, _⟩ => ⟨S24x8x512, .fp8e4m3⟩
  | .local _ .vmem, ⟨4, _⟩ => ⟨S24x512, .f32⟩
  | .local _ .vmem, ⟨5, _⟩ => ⟨S24x512, .f32⟩
  | .local _ .vmem, ⟨6, _⟩ => ⟨S1x1024x512, .bf16⟩
  | .local _ .vmem, ⟨7, _⟩ => ⟨S1x1024x512, .bf16⟩
  | .local _ .vmem, ⟨8, _⟩ => ⟨S768x128, .i32⟩
  | .local _ .vmem, ⟨9, _⟩ => ⟨S192x512, .bf16⟩
  | .local _ .vmem, ⟨10, _⟩ => ⟨S768x128, .i32⟩
  | .local _ .smem, ⟨0, _⟩ => ⟨S48, .i32⟩
  | _, _ => ⟨S48x2048x24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![48, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v5 : Index := Scalar.indexCast arg0
  ![v5.toNat]
@[reducible] def k0_t1_loop (v6 : BitVec 32) : Scf.Loop 32 :=
  let c0_i32_3 : BitVec 32 := 0#32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_4 : BitVec 32 := 1#32
  ⟨c0_i32_3, v11, c1_i32_4⟩

def k0_off2 (v6 : BitVec 32) (k0_t1 : Fin (k0_t1_loop v6).trips) : Fin 3 → Nat :=
  let c0_62 : Index := 0#32
  let c0_i32_3 : BitVec 32 := 0#32
  let c1_i32_4 : BitVec 32 := 1#32
  let arg12 : BitVec 32 := Scf.iv c0_i32_3 c1_i32_4 k0_t1
  let v105 : Index := Scalar.indexCast arg12
  let c0_63 : Index := 0#32
  ![0, v105.toNat, 0]
def k0_off3 (v6 : BitVec 32) (k0_t1 : Fin (k0_t1_loop v6).trips) (c0_i32_68 : BitVec 32) (c0_i32_69 : BitVec 32) : Fin 2 → Nat :=
  let c0_i32_3 : BitVec 32 := 0#32
  let c1_i32_4 : BitVec 32 := 1#32
  let arg12 : BitVec 32 := Scf.iv c0_i32_3 c1_i32_4 k0_t1
  let c32_i32 : BitVec 32 := 32#32
  let v109 : BitVec 32 := Scalar.muli arg12 c32_i32
  let v126 : BitVec 32 := Scalar.addi v109 c0_i32_68
  let v127 : BitVec 32 := Scalar.addi v126 c0_i32_69
  let v128 : Index := Scalar.indexCast v127
  let c0_70 : Index := 0#32
  ![v128.toNat, 0]
def k0_mult1 (v6 : BitVec 32) (k0_t1 : Fin (k0_t1_loop v6).trips) : BitVec 32 :=
  let c0_i32_3 : BitVec 32 := 0#32
  let c1_i32_4 : BitVec 32 := 1#32
  let arg12 : BitVec 32 := Scf.iv c0_i32_3 c1_i32_4 k0_t1
  let c4_i32_102 : BitVec 32 := 4#32
  let v245 : BitVec 32 := Scalar.muli arg12 c4_i32_102
  let c0_i32_103 : BitVec 32 := 0#32
  let v246 : BitVec 32 := Scalar.addi v245 c0_i32_103
  let c8_i32_104 : BitVec 32 := 8#32
  let v247 : BitVec 32 := Scalar.muli v246 c8_i32_104
  v247
def k0_off4 (v6 : BitVec 32) (k0_t1 : Fin (k0_t1_loop v6).trips) (c0_i32_103 : BitVec 32) : Fin 2 → Nat :=
  let c0_i32_3 : BitVec 32 := 0#32
  let c1_i32_4 : BitVec 32 := 1#32
  let arg12 : BitVec 32 := Scf.iv c0_i32_3 c1_i32_4 k0_t1
  let c4_i32_102 : BitVec 32 := 4#32
  let v245 : BitVec 32 := Scalar.muli arg12 c4_i32_102
  let v246 : BitVec 32 := Scalar.addi v245 c0_i32_103
  let c8_i32_104 : BitVec 32 := 8#32
  let v247 : BitVec 32 := Scalar.muli v246 c8_i32_104
  let v248 : BitVec 32 := v247
  let v249 : Index := Scalar.indexCast v248
  let c0_105 : Index := 0#32
  ![v249.toNat, 0]
def k0_mult2 (v6 : BitVec 32) (k0_t1 : Fin (k0_t1_loop v6).trips) : BitVec 32 :=
  let c0_i32_3 : BitVec 32 := 0#32
  let c1_i32_4 : BitVec 32 := 1#32
  let arg12 : BitVec 32 := Scf.iv c0_i32_3 c1_i32_4 k0_t1
  let c4_i32_146 : BitVec 32 := 4#32
  let v372 : BitVec 32 := Scalar.muli arg12 c4_i32_146
  let c1_i32_147 : BitVec 32 := 1#32
  let v373 : BitVec 32 := Scalar.addi v372 c1_i32_147
  let c8_i32_148 : BitVec 32 := 8#32
  let v374 : BitVec 32 := Scalar.muli v373 c8_i32_148
  v374
def k0_mult3 (v6 : BitVec 32) (k0_t1 : Fin (k0_t1_loop v6).trips) : BitVec 32 :=
  let c0_i32_3 : BitVec 32 := 0#32
  let c1_i32_4 : BitVec 32 := 1#32
  let arg12 : BitVec 32 := Scf.iv c0_i32_3 c1_i32_4 k0_t1
  let c4_i32_190 : BitVec 32 := 4#32
  let v499 : BitVec 32 := Scalar.muli arg12 c4_i32_190
  let c2_i32_191 : BitVec 32 := 2#32
  let v500 : BitVec 32 := Scalar.addi v499 c2_i32_191
  let c8_i32_192 : BitVec 32 := 8#32
  let v501 : BitVec 32 := Scalar.muli v500 c8_i32_192
  v501
def k0_mult4 (v6 : BitVec 32) (k0_t1 : Fin (k0_t1_loop v6).trips) : BitVec 32 :=
  let c0_i32_3 : BitVec 32 := 0#32
  let c1_i32_4 : BitVec 32 := 1#32
  let arg12 : BitVec 32 := Scf.iv c0_i32_3 c1_i32_4 k0_t1
  let c4_i32_233 : BitVec 32 := 4#32
  let v626 : BitVec 32 := Scalar.muli arg12 c4_i32_233
  let c3_i32_234 : BitVec 32 := 3#32
  let v627 : BitVec 32 := Scalar.addi v626 c3_i32_234
  let c8_i32_235 : BitVec 32 := 8#32
  let v628 : BitVec 32 := Scalar.muli v627 c8_i32_235
  v628
@[reducible] def k0_t2_loop (v6 : BitVec 32) : Scf.Loop 32 :=
  let c0_i32_3 : BitVec 32 := 0#32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let v8 : BitVec 32 := Scalar.addi c0_i32_3 v7
  let c1_i32_5 : BitVec 32 := 1#32
  ⟨v11, v8, c1_i32_5⟩
def k0_off5 (v6 : BitVec 32) (k0_t2 : Fin (k0_t2_loop v6).trips) : Fin 3 → Nat :=
  let c0_62 : Index := 0#32
  let c0_i32_3 : BitVec 32 := 0#32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg12 : BitVec 32 := Scf.iv v11 c1_i32_5 k0_t2
  let v105 : Index := Scalar.indexCast arg12
  let c0_63 : Index := 0#32
  ![0, v105.toNat, 0]
def k0_off6 (v6 : BitVec 32) (k0_t2 : Fin (k0_t2_loop v6).trips) (c0_i32_68 : BitVec 32) (c0_i32_69 : BitVec 32) : Fin 2 → Nat :=
  let c0_i32_3 : BitVec 32 := 0#32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg12 : BitVec 32 := Scf.iv v11 c1_i32_5 k0_t2
  let c32_i32 : BitVec 32 := 32#32
  let v109 : BitVec 32 := Scalar.muli arg12 c32_i32
  let v126 : BitVec 32 := Scalar.addi v109 c0_i32_68
  let v127 : BitVec 32 := Scalar.addi v126 c0_i32_69
  let v128 : Index := Scalar.indexCast v127
  let c0_70 : Index := 0#32
  ![v128.toNat, 0]
def k0_mult5 (v6 : BitVec 32) (k0_t2 : Fin (k0_t2_loop v6).trips) : BitVec 32 :=
  let c0_i32_3 : BitVec 32 := 0#32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg12 : BitVec 32 := Scf.iv v11 c1_i32_5 k0_t2
  let c4_i32_102 : BitVec 32 := 4#32
  let v245 : BitVec 32 := Scalar.muli arg12 c4_i32_102
  let c0_i32_103 : BitVec 32 := 0#32
  let v246 : BitVec 32 := Scalar.addi v245 c0_i32_103
  let c8_i32_104 : BitVec 32 := 8#32
  let v247 : BitVec 32 := Scalar.muli v246 c8_i32_104
  v247
def k0_off7 (v6 : BitVec 32) (k0_t2 : Fin (k0_t2_loop v6).trips) (c0_i32_103 : BitVec 32) : Fin 2 → Nat :=
  let c0_i32_3 : BitVec 32 := 0#32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg12 : BitVec 32 := Scf.iv v11 c1_i32_5 k0_t2
  let c4_i32_102 : BitVec 32 := 4#32
  let v245 : BitVec 32 := Scalar.muli arg12 c4_i32_102
  let v246 : BitVec 32 := Scalar.addi v245 c0_i32_103
  let c8_i32_104 : BitVec 32 := 8#32
  let v247 : BitVec 32 := Scalar.muli v246 c8_i32_104
  let v248 : BitVec 32 := v247
  let v249 : Index := Scalar.indexCast v248
  let c0_105 : Index := 0#32
  ![v249.toNat, 0]
def k0_mult6 (v6 : BitVec 32) (k0_t2 : Fin (k0_t2_loop v6).trips) : BitVec 32 :=
  let c0_i32_3 : BitVec 32 := 0#32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg12 : BitVec 32 := Scf.iv v11 c1_i32_5 k0_t2
  let c4_i32_146 : BitVec 32 := 4#32
  let v372 : BitVec 32 := Scalar.muli arg12 c4_i32_146
  let c1_i32_147 : BitVec 32 := 1#32
  let v373 : BitVec 32 := Scalar.addi v372 c1_i32_147
  let c8_i32_148 : BitVec 32 := 8#32
  let v374 : BitVec 32 := Scalar.muli v373 c8_i32_148
  v374
def k0_mult7 (v6 : BitVec 32) (k0_t2 : Fin (k0_t2_loop v6).trips) : BitVec 32 :=
  let c0_i32_3 : BitVec 32 := 0#32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg12 : BitVec 32 := Scf.iv v11 c1_i32_5 k0_t2
  let c4_i32_190 : BitVec 32 := 4#32
  let v499 : BitVec 32 := Scalar.muli arg12 c4_i32_190
  let c2_i32_191 : BitVec 32 := 2#32
  let v500 : BitVec 32 := Scalar.addi v499 c2_i32_191
  let c8_i32_192 : BitVec 32 := 8#32
  let v501 : BitVec 32 := Scalar.muli v500 c8_i32_192
  v501
def k0_mult8 (v6 : BitVec 32) (k0_t2 : Fin (k0_t2_loop v6).trips) : BitVec 32 :=
  let c0_i32_3 : BitVec 32 := 0#32
  let v7 : BitVec 32 := Scalar.subi v6 c0_i32_3
  let c1_i32 : BitVec 32 := 1#32
  let v9 : BitVec 32 := Scalar.divsi v7 c1_i32
  let v10 : BitVec 32 := Scalar.muli v9 c1_i32
  let v11 : BitVec 32 := Scalar.addi c0_i32_3 v10
  let c1_i32_5 : BitVec 32 := 1#32
  let arg12 : BitVec 32 := Scf.iv v11 c1_i32_5 k0_t2
  let c4_i32_233 : BitVec 32 := 4#32
  let v626 : BitVec 32 := Scalar.muli arg12 c4_i32_233
  let c3_i32_234 : BitVec 32 := 3#32
  let v627 : BitVec 32 := Scalar.addi v626 c3_i32_234
  let c8_i32_235 : BitVec 32 := 8#32
  let v628 : BitVec 32 := Scalar.muli v627 c8_i32_235
  v628
@[reducible] def k0_t3_loop (v6 : BitVec 32) : Scf.Loop 32 :=
  let c24_i32 : BitVec 32 := 24#32
  let v12 : BitVec 32 := Scalar.subi c24_i32 v6
  let c1_i32_7 : BitVec 32 := 1#32
  let v14 : BitVec 32 := Scalar.divsi v12 c1_i32_7
  let v15 : BitVec 32 := Scalar.muli v14 c1_i32_7
  let v16 : BitVec 32 := Scalar.addi v6 v15
  let c1_i32_8 : BitVec 32 := 1#32
  ⟨v6, v16, c1_i32_8⟩
def k0_mult9 (v6 : BitVec 32) (k0_t3 : Fin (k0_t3_loop v6).trips) : BitVec 32 :=
  let c1_i32_8 : BitVec 32 := 1#32
  let arg12 : BitVec 32 := Scf.iv v6 c1_i32_8 k0_t3
  let c4_i32 : BitVec 32 := 4#32
  let v106 : BitVec 32 := Scalar.muli arg12 c4_i32
  let c0_i32_63 : BitVec 32 := 0#32
  let v107 : BitVec 32 := Scalar.addi v106 c0_i32_63
  let c8_i32 : BitVec 32 := 8#32
  let v108 : BitVec 32 := Scalar.muli v107 c8_i32
  v108
def k0_off8 (v6 : BitVec 32) (k0_t3 : Fin (k0_t3_loop v6).trips) (c0_i32_63 : BitVec 32) : Fin 2 → Nat :=
  let c1_i32_8 : BitVec 32 := 1#32
  let arg12 : BitVec 32 := Scf.iv v6 c1_i32_8 k0_t3
  let c4_i32 : BitVec 32 := 4#32
  let v106 : BitVec 32 := Scalar.muli arg12 c4_i32
  let v107 : BitVec 32 := Scalar.addi v106 c0_i32_63
  let c8_i32 : BitVec 32 := 8#32
  let v108 : BitVec 32 := Scalar.muli v107 c8_i32
  let v109 : BitVec 32 := v108
  let v110 : Index := Scalar.indexCast v109
  let c0_64 : Index := 0#32
  ![v110.toNat, 0]
def k0_mult10 (v6 : BitVec 32) (k0_t3 : Fin (k0_t3_loop v6).trips) : BitVec 32 :=
  let c1_i32_8 : BitVec 32 := 1#32
  let arg12 : BitVec 32 := Scf.iv v6 c1_i32_8 k0_t3
  let c4_i32_66 : BitVec 32 := 4#32
  let v115 : BitVec 32 := Scalar.muli arg12 c4_i32_66
  let c1_i32_67 : BitVec 32 := 1#32
  let v116 : BitVec 32 := Scalar.addi v115 c1_i32_67
  let c8_i32_68 : BitVec 32 := 8#32
  let v117 : BitVec 32 := Scalar.muli v116 c8_i32_68
  v117
def k0_mult11 (v6 : BitVec 32) (k0_t3 : Fin (k0_t3_loop v6).trips) : BitVec 32 :=
  let c1_i32_8 : BitVec 32 := 1#32
  let arg12 : BitVec 32 := Scf.iv v6 c1_i32_8 k0_t3
  let c4_i32_71 : BitVec 32 := 4#32
  let v124 : BitVec 32 := Scalar.muli arg12 c4_i32_71
  let c2_i32 : BitVec 32 := 2#32
  let v125 : BitVec 32 := Scalar.addi v124 c2_i32
  let c8_i32_72 : BitVec 32 := 8#32
  let v126 : BitVec 32 := Scalar.muli v125 c8_i32_72
  v126
def k0_mult12 (v6 : BitVec 32) (k0_t3 : Fin (k0_t3_loop v6).trips) : BitVec 32 :=
  let c1_i32_8 : BitVec 32 := 1#32
  let arg12 : BitVec 32 := Scf.iv v6 c1_i32_8 k0_t3
  let c4_i32_75 : BitVec 32 := 4#32
  let v133 : BitVec 32 := Scalar.muli arg12 c4_i32_75
  let c3_i32 : BitVec 32 := 3#32
  let v134 : BitVec 32 := Scalar.addi v133 c3_i32
  let c8_i32_76 : BitVec 32 := 8#32
  let v135 : BitVec 32 := Scalar.muli v134 c8_i32_76
  v135
@[reducible] def k0_t4_loop (v6 : BitVec 32) : Scf.Loop 32 :=
  let c24_i32 : BitVec 32 := 24#32
  let v12 : BitVec 32 := Scalar.subi c24_i32 v6
  let c1_i32_7 : BitVec 32 := 1#32
  let v14 : BitVec 32 := Scalar.divsi v12 c1_i32_7
  let v15 : BitVec 32 := Scalar.muli v14 c1_i32_7
  let v16 : BitVec 32 := Scalar.addi v6 v15
  let v13 : BitVec 32 := Scalar.addi v6 v12
  let c1_i32_9 : BitVec 32 := 1#32
  ⟨v16, v13, c1_i32_9⟩
def k0_mult13 (v6 : BitVec 32) (k0_t4 : Fin (k0_t4_loop v6).trips) : BitVec 32 :=
  let c24_i32 : BitVec 32 := 24#32
  let v12 : BitVec 32 := Scalar.subi c24_i32 v6
  let c1_i32_7 : BitVec 32 := 1#32
  let v14 : BitVec 32 := Scalar.divsi v12 c1_i32_7
  let v15 : BitVec 32 := Scalar.muli v14 c1_i32_7
  let v16 : BitVec 32 := Scalar.addi v6 v15
  let c1_i32_9 : BitVec 32 := 1#32
  let arg12 : BitVec 32 := Scf.iv v16 c1_i32_9 k0_t4
  let c4_i32 : BitVec 32 := 4#32
  let v106 : BitVec 32 := Scalar.muli arg12 c4_i32
  let c0_i32_63 : BitVec 32 := 0#32
  let v107 : BitVec 32 := Scalar.addi v106 c0_i32_63
  let c8_i32 : BitVec 32 := 8#32
  let v108 : BitVec 32 := Scalar.muli v107 c8_i32
  v108
def k0_off9 (v6 : BitVec 32) (k0_t4 : Fin (k0_t4_loop v6).trips) (c0_i32_63 : BitVec 32) : Fin 2 → Nat :=
  let c24_i32 : BitVec 32 := 24#32
  let v12 : BitVec 32 := Scalar.subi c24_i32 v6
  let c1_i32_7 : BitVec 32 := 1#32
  let v14 : BitVec 32 := Scalar.divsi v12 c1_i32_7
  let v15 : BitVec 32 := Scalar.muli v14 c1_i32_7
  let v16 : BitVec 32 := Scalar.addi v6 v15
  let c1_i32_9 : BitVec 32 := 1#32
  let arg12 : BitVec 32 := Scf.iv v16 c1_i32_9 k0_t4
  let c4_i32 : BitVec 32 := 4#32
  let v106 : BitVec 32 := Scalar.muli arg12 c4_i32
  let v107 : BitVec 32 := Scalar.addi v106 c0_i32_63
  let c8_i32 : BitVec 32 := 8#32
  let v108 : BitVec 32 := Scalar.muli v107 c8_i32
  let v109 : BitVec 32 := v108
  let v110 : Index := Scalar.indexCast v109
  let c0_64 : Index := 0#32
  ![v110.toNat, 0]
def k0_mult14 (v6 : BitVec 32) (k0_t4 : Fin (k0_t4_loop v6).trips) : BitVec 32 :=
  let c24_i32 : BitVec 32 := 24#32
  let v12 : BitVec 32 := Scalar.subi c24_i32 v6
  let c1_i32_7 : BitVec 32 := 1#32
  let v14 : BitVec 32 := Scalar.divsi v12 c1_i32_7
  let v15 : BitVec 32 := Scalar.muli v14 c1_i32_7
  let v16 : BitVec 32 := Scalar.addi v6 v15
  let c1_i32_9 : BitVec 32 := 1#32
  let arg12 : BitVec 32 := Scf.iv v16 c1_i32_9 k0_t4
  let c4_i32_66 : BitVec 32 := 4#32
  let v115 : BitVec 32 := Scalar.muli arg12 c4_i32_66
  let c1_i32_67 : BitVec 32 := 1#32
  let v116 : BitVec 32 := Scalar.addi v115 c1_i32_67
  let c8_i32_68 : BitVec 32 := 8#32
  let v117 : BitVec 32 := Scalar.muli v116 c8_i32_68
  v117
def k0_mult15 (v6 : BitVec 32) (k0_t4 : Fin (k0_t4_loop v6).trips) : BitVec 32 :=
  let c24_i32 : BitVec 32 := 24#32
  let v12 : BitVec 32 := Scalar.subi c24_i32 v6
  let c1_i32_7 : BitVec 32 := 1#32
  let v14 : BitVec 32 := Scalar.divsi v12 c1_i32_7
  let v15 : BitVec 32 := Scalar.muli v14 c1_i32_7
  let v16 : BitVec 32 := Scalar.addi v6 v15
  let c1_i32_9 : BitVec 32 := 1#32
  let arg12 : BitVec 32 := Scf.iv v16 c1_i32_9 k0_t4
  let c4_i32_71 : BitVec 32 := 4#32
  let v124 : BitVec 32 := Scalar.muli arg12 c4_i32_71
  let c2_i32 : BitVec 32 := 2#32
  let v125 : BitVec 32 := Scalar.addi v124 c2_i32
  let c8_i32_72 : BitVec 32 := 8#32
  let v126 : BitVec 32 := Scalar.muli v125 c8_i32_72
  v126
def k0_mult16 (v6 : BitVec 32) (k0_t4 : Fin (k0_t4_loop v6).trips) : BitVec 32 :=
  let c24_i32 : BitVec 32 := 24#32
  let v12 : BitVec 32 := Scalar.subi c24_i32 v6
  let c1_i32_7 : BitVec 32 := 1#32
  let v14 : BitVec 32 := Scalar.divsi v12 c1_i32_7
  let v15 : BitVec 32 := Scalar.muli v14 c1_i32_7
  let v16 : BitVec 32 := Scalar.addi v6 v15
  let c1_i32_9 : BitVec 32 := 1#32
  let arg12 : BitVec 32 := Scf.iv v16 c1_i32_9 k0_t4
  let c4_i32_75 : BitVec 32 := 4#32
  let v133 : BitVec 32 := Scalar.muli arg12 c4_i32_75
  let c3_i32 : BitVec 32 := 3#32
  let v134 : BitVec 32 := Scalar.addi v133 c3_i32
  let c8_i32_76 : BitVec 32 := 8#32
  let v135 : BitVec 32 := Scalar.muli v134 c8_i32_76
  v135

def k0_chk1 (v6 : BitVec 32) : Prop :=
  ((k0_t1_loop v6).OK) ∧
  (∀ k0_t1 : Fin (k0_t1_loop v6).trips, ∀ a, (k0_off2 v6 k0_t1) a + S1x1x1024.size a ≤ S1x24x1024.size a) ∧
  (∀ k0_t1 : Fin (k0_t1_loop v6).trips, ∀ (r₁ : Fin 8) (r₂ : Fin 4), ∀ a, (k0_off3 v6 k0_t1 (BitVec.ofNat 32 (4 * r₁.val)) (BitVec.ofNat 32 r₂.val)) a + S1x128.size a ≤ S768x128.size a) ∧
  (∀ k0_t1 : Fin (k0_t1_loop v6).trips, 8 ∣ (k0_mult1 v6 k0_t1).toNat) ∧
  (∀ k0_t1 : Fin (k0_t1_loop v6).trips, ∀ (r : Fin 4), ∀ a, (k0_off4 v6 k0_t1 (BitVec.ofNat 32 r.val)) a + S8x128.size a ≤ S768x128.size a) ∧
  (∀ k0_t1 : Fin (k0_t1_loop v6).trips, 8 ∣ (k0_mult2 v6 k0_t1).toNat) ∧
  (∀ k0_t1 : Fin (k0_t1_loop v6).trips, 8 ∣ (k0_mult3 v6 k0_t1).toNat) ∧
  (∀ k0_t1 : Fin (k0_t1_loop v6).trips, 8 ∣ (k0_mult4 v6 k0_t1).toNat) ∧
  ((k0_t2_loop v6).OK) ∧
  (∀ k0_t2 : Fin (k0_t2_loop v6).trips, ∀ a, (k0_off5 v6 k0_t2) a + S1x1x1024.size a ≤ S1x24x1024.size a) ∧
  (∀ k0_t2 : Fin (k0_t2_loop v6).trips, ∀ (r₁ : Fin 8) (r₂ : Fin 4), ∀ a, (k0_off6 v6 k0_t2 (BitVec.ofNat 32 (4 * r₁.val)) (BitVec.ofNat 32 r₂.val)) a + S1x128.size a ≤ S768x128.size a) ∧
  (∀ k0_t2 : Fin (k0_t2_loop v6).trips, 8 ∣ (k0_mult5 v6 k0_t2).toNat) ∧
  (∀ k0_t2 : Fin (k0_t2_loop v6).trips, ∀ (r : Fin 4), ∀ a, (k0_off7 v6 k0_t2 (BitVec.ofNat 32 r.val)) a + S8x128.size a ≤ S768x128.size a) ∧
  (∀ k0_t2 : Fin (k0_t2_loop v6).trips, 8 ∣ (k0_mult6 v6 k0_t2).toNat) ∧
  (∀ k0_t2 : Fin (k0_t2_loop v6).trips, 8 ∣ (k0_mult7 v6 k0_t2).toNat) ∧
  (∀ k0_t2 : Fin (k0_t2_loop v6).trips, 8 ∣ (k0_mult8 v6 k0_t2).toNat) ∧
  ((k0_t3_loop v6).OK) ∧
  (∀ k0_t3 : Fin (k0_t3_loop v6).trips, 8 ∣ (k0_mult9 v6 k0_t3).toNat) ∧
  (∀ k0_t3 : Fin (k0_t3_loop v6).trips, ∀ (r : Fin 4), ∀ a, (k0_off8 v6 k0_t3 (BitVec.ofNat 32 r.val)) a + S8x128.size a ≤ S768x128.size a) ∧
  (∀ k0_t3 : Fin (k0_t3_loop v6).trips, 8 ∣ (k0_mult10 v6 k0_t3).toNat) ∧
  (∀ k0_t3 : Fin (k0_t3_loop v6).trips, 8 ∣ (k0_mult11 v6 k0_t3).toNat) ∧
  (∀ k0_t3 : Fin (k0_t3_loop v6).trips, 8 ∣ (k0_mult12 v6 k0_t3).toNat) ∧
  ((k0_t4_loop v6).OK) ∧
  (∀ k0_t4 : Fin (k0_t4_loop v6).trips, 8 ∣ (k0_mult13 v6 k0_t4).toNat) ∧
  (∀ k0_t4 : Fin (k0_t4_loop v6).trips, ∀ (r : Fin 4), ∀ a, (k0_off9 v6 k0_t4 (BitVec.ofNat 32 r.val)) a + S8x128.size a ≤ S768x128.size a) ∧
  (∀ k0_t4 : Fin (k0_t4_loop v6).trips, 8 ∣ (k0_mult14 v6 k0_t4).toNat) ∧
  (∀ k0_t4 : Fin (k0_t4_loop v6).trips, 8 ∣ (k0_mult15 v6 k0_t4).toNat) ∧
  (∀ k0_t4 : Fin (k0_t4_loop v6).trips, 8 ∣ (k0_mult16 v6 k0_t4).toNat)
theorem k0_t1_ok : ∀ (v6 : BitVec 32) (k0_hw1 : k0_chk1 v6), (k0_t1_loop v6).OK := fun v6 k0_hw1 => k0_hw1.1
theorem k0_off2_inb : ∀ (v6 : BitVec 32) (k0_hw1 : k0_chk1 v6) (k0_t1 : Fin (k0_t1_loop v6).trips), ∀ a, (k0_off2 v6 k0_t1) a + S1x1x1024.size a ≤ S1x24x1024.size a := fun v6 k0_hw1 k0_t1 => k0_hw1.2.1 k0_t1
theorem k0_off3_inb : ∀ (v6 : BitVec 32) (k0_hw1 : k0_chk1 v6) (k0_t1 : Fin (k0_t1_loop v6).trips), ∀ (r₁ : Fin 8) (r₂ : Fin 4), ∀ a, (k0_off3 v6 k0_t1 (BitVec.ofNat 32 (4 * r₁.val)) (BitVec.ofNat 32 r₂.val)) a + S1x128.size a ≤ S768x128.size a := fun v6 k0_hw1 k0_t1 r₁ r₂ => k0_hw1.2.2.1 k0_t1 r₁ r₂
theorem k0_mult1_dvd : ∀ (v6 : BitVec 32) (k0_hw1 : k0_chk1 v6) (k0_t1 : Fin (k0_t1_loop v6).trips), 8 ∣ (k0_mult1 v6 k0_t1).toNat := fun v6 k0_hw1 k0_t1 => k0_hw1.2.2.2.1 k0_t1
theorem k0_off4_inb : ∀ (v6 : BitVec 32) (k0_hw1 : k0_chk1 v6) (k0_t1 : Fin (k0_t1_loop v6).trips), ∀ (r : Fin 4), ∀ a, (k0_off4 v6 k0_t1 (BitVec.ofNat 32 r.val)) a + S8x128.size a ≤ S768x128.size a := fun v6 k0_hw1 k0_t1 r => k0_hw1.2.2.2.2.1 k0_t1 r
theorem k0_mult2_dvd : ∀ (v6 : BitVec 32) (k0_hw1 : k0_chk1 v6) (k0_t1 : Fin (k0_t1_loop v6).trips), 8 ∣ (k0_mult2 v6 k0_t1).toNat := fun v6 k0_hw1 k0_t1 => k0_hw1.2.2.2.2.2.1 k0_t1
theorem k0_mult3_dvd : ∀ (v6 : BitVec 32) (k0_hw1 : k0_chk1 v6) (k0_t1 : Fin (k0_t1_loop v6).trips), 8 ∣ (k0_mult3 v6 k0_t1).toNat := fun v6 k0_hw1 k0_t1 => k0_hw1.2.2.2.2.2.2.1 k0_t1
theorem k0_mult4_dvd : ∀ (v6 : BitVec 32) (k0_hw1 : k0_chk1 v6) (k0_t1 : Fin (k0_t1_loop v6).trips), 8 ∣ (k0_mult4 v6 k0_t1).toNat := fun v6 k0_hw1 k0_t1 => k0_hw1.2.2.2.2.2.2.2.1 k0_t1
theorem k0_t2_ok : ∀ (v6 : BitVec 32) (k0_hw1 : k0_chk1 v6), (k0_t2_loop v6).OK := fun v6 k0_hw1 => k0_hw1.2.2.2.2.2.2.2.2.1
theorem k0_off5_inb : ∀ (v6 : BitVec 32) (k0_hw1 : k0_chk1 v6) (k0_t2 : Fin (k0_t2_loop v6).trips), ∀ a, (k0_off5 v6 k0_t2) a + S1x1x1024.size a ≤ S1x24x1024.size a := fun v6 k0_hw1 k0_t2 => k0_hw1.2.2.2.2.2.2.2.2.2.1 k0_t2
theorem k0_off6_inb : ∀ (v6 : BitVec 32) (k0_hw1 : k0_chk1 v6) (k0_t2 : Fin (k0_t2_loop v6).trips), ∀ (r₁ : Fin 8) (r₂ : Fin 4), ∀ a, (k0_off6 v6 k0_t2 (BitVec.ofNat 32 (4 * r₁.val)) (BitVec.ofNat 32 r₂.val)) a + S1x128.size a ≤ S768x128.size a := fun v6 k0_hw1 k0_t2 r₁ r₂ => k0_hw1.2.2.2.2.2.2.2.2.2.2.1 k0_t2 r₁ r₂
theorem k0_mult5_dvd : ∀ (v6 : BitVec 32) (k0_hw1 : k0_chk1 v6) (k0_t2 : Fin (k0_t2_loop v6).trips), 8 ∣ (k0_mult5 v6 k0_t2).toNat := fun v6 k0_hw1 k0_t2 => k0_hw1.2.2.2.2.2.2.2.2.2.2.2.1 k0_t2
theorem k0_off7_inb : ∀ (v6 : BitVec 32) (k0_hw1 : k0_chk1 v6) (k0_t2 : Fin (k0_t2_loop v6).trips), ∀ (r : Fin 4), ∀ a, (k0_off7 v6 k0_t2 (BitVec.ofNat 32 r.val)) a + S8x128.size a ≤ S768x128.size a := fun v6 k0_hw1 k0_t2 r => k0_hw1.2.2.2.2.2.2.2.2.2.2.2.2.1 k0_t2 r
theorem k0_mult6_dvd : ∀ (v6 : BitVec 32) (k0_hw1 : k0_chk1 v6) (k0_t2 : Fin (k0_t2_loop v6).trips), 8 ∣ (k0_mult6 v6 k0_t2).toNat := fun v6 k0_hw1 k0_t2 => k0_hw1.2.2.2.2.2.2.2.2.2.2.2.2.2.1 k0_t2
theorem k0_mult7_dvd : ∀ (v6 : BitVec 32) (k0_hw1 : k0_chk1 v6) (k0_t2 : Fin (k0_t2_loop v6).trips), 8 ∣ (k0_mult7 v6 k0_t2).toNat := fun v6 k0_hw1 k0_t2 => k0_hw1.2.2.2.2.2.2.2.2.2.2.2.2.2.2.1 k0_t2
theorem k0_mult8_dvd : ∀ (v6 : BitVec 32) (k0_hw1 : k0_chk1 v6) (k0_t2 : Fin (k0_t2_loop v6).trips), 8 ∣ (k0_mult8 v6 k0_t2).toNat := fun v6 k0_hw1 k0_t2 => k0_hw1.2.2.2.2.2.2.2.2.2.2.2.2.2.2.2.1 k0_t2
theorem k0_t3_ok : ∀ (v6 : BitVec 32) (k0_hw1 : k0_chk1 v6), (k0_t3_loop v6).OK := fun v6 k0_hw1 => k0_hw1.2.2.2.2.2.2.2.2.2.2.2.2.2.2.2.2.1
theorem k0_mult9_dvd : ∀ (v6 : BitVec 32) (k0_hw1 : k0_chk1 v6) (k0_t3 : Fin (k0_t3_loop v6).trips), 8 ∣ (k0_mult9 v6 k0_t3).toNat := fun v6 k0_hw1 k0_t3 => k0_hw1.2.2.2.2.2.2.2.2.2.2.2.2.2.2.2.2.2.1 k0_t3
theorem k0_off8_inb : ∀ (v6 : BitVec 32) (k0_hw1 : k0_chk1 v6) (k0_t3 : Fin (k0_t3_loop v6).trips), ∀ (r : Fin 4), ∀ a, (k0_off8 v6 k0_t3 (BitVec.ofNat 32 r.val)) a + S8x128.size a ≤ S768x128.size a := fun v6 k0_hw1 k0_t3 r => k0_hw1.2.2.2.2.2.2.2.2.2.2.2.2.2.2.2.2.2.2.1 k0_t3 r
theorem k0_mult10_dvd : ∀ (v6 : BitVec 32) (k0_hw1 : k0_chk1 v6) (k0_t3 : Fin (k0_t3_loop v6).trips), 8 ∣ (k0_mult10 v6 k0_t3).toNat := fun v6 k0_hw1 k0_t3 => k0_hw1.2.2.2.2.2.2.2.2.2.2.2.2.2.2.2.2.2.2.2.1 k0_t3
theorem k0_mult11_dvd : ∀ (v6 : BitVec 32) (k0_hw1 : k0_chk1 v6) (k0_t3 : Fin (k0_t3_loop v6).trips), 8 ∣ (k0_mult11 v6 k0_t3).toNat := fun v6 k0_hw1 k0_t3 => k0_hw1.2.2.2.2.2.2.2.2.2.2.2.2.2.2.2.2.2.2.2.2.1 k0_t3
theorem k0_mult12_dvd : ∀ (v6 : BitVec 32) (k0_hw1 : k0_chk1 v6) (k0_t3 : Fin (k0_t3_loop v6).trips), 8 ∣ (k0_mult12 v6 k0_t3).toNat := fun v6 k0_hw1 k0_t3 => k0_hw1.2.2.2.2.2.2.2.2.2.2.2.2.2.2.2.2.2.2.2.2.2.1 k0_t3
theorem k0_t4_ok : ∀ (v6 : BitVec 32) (k0_hw1 : k0_chk1 v6), (k0_t4_loop v6).OK := fun v6 k0_hw1 => k0_hw1.2.2.2.2.2.2.2.2.2.2.2.2.2.2.2.2.2.2.2.2.2.2.1
theorem k0_mult13_dvd : ∀ (v6 : BitVec 32) (k0_hw1 : k0_chk1 v6) (k0_t4 : Fin (k0_t4_loop v6).trips), 8 ∣ (k0_mult13 v6 k0_t4).toNat := fun v6 k0_hw1 k0_t4 => k0_hw1.2.2.2.2.2.2.2.2.2.2.2.2.2.2.2.2.2.2.2.2.2.2.2.1 k0_t4
theorem k0_off9_inb : ∀ (v6 : BitVec 32) (k0_hw1 : k0_chk1 v6) (k0_t4 : Fin (k0_t4_loop v6).trips), ∀ (r : Fin 4), ∀ a, (k0_off9 v6 k0_t4 (BitVec.ofNat 32 r.val)) a + S8x128.size a ≤ S768x128.size a := fun v6 k0_hw1 k0_t4 r => k0_hw1.2.2.2.2.2.2.2.2.2.2.2.2.2.2.2.2.2.2.2.2.2.2.2.2.1 k0_t4 r
theorem k0_mult14_dvd : ∀ (v6 : BitVec 32) (k0_hw1 : k0_chk1 v6) (k0_t4 : Fin (k0_t4_loop v6).trips), 8 ∣ (k0_mult14 v6 k0_t4).toNat := fun v6 k0_hw1 k0_t4 => k0_hw1.2.2.2.2.2.2.2.2.2.2.2.2.2.2.2.2.2.2.2.2.2.2.2.2.2.1 k0_t4
theorem k0_mult15_dvd : ∀ (v6 : BitVec 32) (k0_hw1 : k0_chk1 v6) (k0_t4 : Fin (k0_t4_loop v6).trips), 8 ∣ (k0_mult15 v6 k0_t4).toNat := fun v6 k0_hw1 k0_t4 => k0_hw1.2.2.2.2.2.2.2.2.2.2.2.2.2.2.2.2.2.2.2.2.2.2.2.2.2.2.1 k0_t4
theorem k0_mult16_dvd : ∀ (v6 : BitVec 32) (k0_hw1 : k0_chk1 v6) (k0_t4 : Fin (k0_t4_loop v6).trips), 8 ∣ (k0_mult16 v6 k0_t4).toNat := fun v6 k0_hw1 k0_t4 => k0_hw1.2.2.2.2.2.2.2.2.2.2.2.2.2.2.2.2.2.2.2.2.2.2.2.2.2.2.2 k0_t4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x24x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S24x8x1024 .i16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S24x8x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S24x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S24x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S48x2048x24 : Shape := ⟨3, ![48, 2048, 24]⟩
abbrev S48 : Shape := ⟨1, ![48]⟩
abbrev S24x1024x8 : Shape := ⟨3, ![24, 1024, 8]⟩
abbrev S24x8x512 : Shape := ⟨3, ![24, 8, 512]⟩
abbrev S24x512 : Shape := ⟨2, ![24, 512]⟩
abbrev S24 : Shape := ⟨1, ![24]⟩
abbrev S1x24 : Shape := ⟨2, ![1, 24]⟩
abbrev S48x1 : Shape := ⟨2, ![48, 1]⟩
abbrev S48x24 : Shape := ⟨2, ![48, 24]⟩
abbrev S1x1x24 : Shape := ⟨3, ![1, 1, 24]⟩
abbrev S_ : Shape := ⟨0, ![]⟩
abbrev S48x2048x24x1 : Shape := ⟨4, ![48, 2048, 24, 1]⟩
abbrev S48x2048x24x2 : Shape := ⟨4, ![48, 2048, 24, 2]⟩
abbrev S48x2048x24x8 : Shape := ⟨4, ![48, 2048, 24, 8]⟩
abbrev S48x1x24x1 : Shape := ⟨4, ![48, 1, 24, 1]⟩
abbrev S48x2048x192 : Shape := ⟨3, ![48, 2048, 192]⟩
abbrev S48x24x1 : Shape := ⟨3, ![48, 24, 1]⟩
abbrev S1x24x512 : Shape := ⟨3, ![1, 24, 512]⟩
abbrev S48x24x512 : Shape := ⟨3, ![48, 24, 512]⟩
abbrev S48x512 : Shape := ⟨2, ![48, 512]⟩
abbrev S48x2048x512 : Shape := ⟨3, ![48, 2048, 512]⟩
abbrev S24x1x512 : Shape := ⟨3, ![24, 1, 512]⟩
abbrev S192x512 : Shape := ⟨2, ![192, 512]⟩
abbrev S98304x192 : Shape := ⟨2, ![98304, 192]⟩
abbrev S98304x512 : Shape := ⟨2, ![98304, 512]⟩
abbrev S48x1x512 : Shape := ⟨3, ![48, 1, 512]⟩

abbrev nBuf : Space → Nat
  | .hbm => 49
  | .vmem => 5
  | .smem => 0
  | _ => 0

abbrev bufTy : (tb : Table) → Fin (tcTables nBuf tb) → BufTy
  | .hbm, ⟨0, _⟩ => ⟨S48x2048x24, .i32⟩
  | .hbm, ⟨1, _⟩ => ⟨S48, .i32⟩
  | .hbm, ⟨2, _⟩ => ⟨S24x1024x8, .i16⟩
  | .hbm, ⟨3, _⟩ => ⟨S24x8x512, .fp8e4m3⟩
  | .hbm, ⟨4, _⟩ => ⟨S24x512, .f32⟩
  | .hbm, ⟨5, _⟩ => ⟨S24x512, .f32⟩
  | .hbm, ⟨6, _⟩ => ⟨S24, .i32⟩
  | .hbm, ⟨7, _⟩ => ⟨S1x24, .i32⟩
  | .hbm, ⟨8, _⟩ => ⟨S48x1, .i32⟩
  | .hbm, ⟨9, _⟩ => ⟨S48x24, .i32⟩
  | .hbm, ⟨10, _⟩ => ⟨S48x24, .i32⟩
  | .hbm, ⟨11, _⟩ => ⟨S48x24, .i1⟩
  | .hbm, ⟨12, _⟩ => ⟨S24x1024x8, .bf16⟩
  | .hbm, ⟨13, _⟩ => ⟨S1x1x24, .i32⟩
  | .hbm, ⟨14, _⟩ => ⟨S_, .i32⟩
  | .hbm, ⟨15, _⟩ => ⟨S1x1x24, .i32⟩
  | .hbm, ⟨16, _⟩ => ⟨S1x1x24, .i1⟩
  | .hbm, ⟨17, _⟩ => ⟨S_, .i32⟩
  | .hbm, ⟨18, _⟩ => ⟨S1x1x24, .i32⟩
  | .hbm, ⟨19, _⟩ => ⟨S1x1x24, .i32⟩
  | .hbm, ⟨20, _⟩ => ⟨S1x1x24, .i32⟩
  | .hbm, ⟨21, _⟩ => ⟨S_, .i32⟩
  | .hbm, ⟨22, _⟩ => ⟨S48x2048x24, .i32⟩
  | .hbm, ⟨23, _⟩ => ⟨S48x2048x24, .i1⟩
  | .hbm, ⟨24, _⟩ => ⟨S_, .i32⟩
  | .hbm, ⟨25, _⟩ => ⟨S48x2048x24, .i32⟩
  | .hbm, ⟨26, _⟩ => ⟨S48x2048x24, .i32⟩
  | .hbm, ⟨27, _⟩ => ⟨S48x2048x24, .i32⟩
  | .hbm, ⟨28, _⟩ => ⟨S48x2048x24, .i32⟩
  | .hbm, ⟨29, _⟩ => ⟨S48x2048x24x1, .i32⟩
  | .hbm, ⟨30, _⟩ => ⟨S48x2048x24x1, .i32⟩
  | .hbm, ⟨31, _⟩ => ⟨S48x2048x24x2, .i32⟩
  | .hbm, ⟨32, _⟩ => ⟨S48x2048x24x8, .bf16⟩
  | .hbm, ⟨33, _⟩ => ⟨S48x1x24x1, .i1⟩
  | .hbm, ⟨34, _⟩ => ⟨S_, .bf16⟩
  | .hbm, ⟨35, _⟩ => ⟨S48x2048x24x8, .i1⟩
  | .hbm, ⟨36, _⟩ => ⟨S48x2048x24x8, .bf16⟩
  | .hbm, ⟨37, _⟩ => ⟨S48x2048x24x8, .bf16⟩
  | .hbm, ⟨38, _⟩ => ⟨S48x2048x192, .bf16⟩
  | .hbm, ⟨39, _⟩ => ⟨S48x24x1, .i1⟩
  | .hbm, ⟨40, _⟩ => ⟨S1x24x512, .f32⟩
  | .hbm, ⟨41, _⟩ => ⟨S_, .f32⟩
  | .hbm, ⟨42, _⟩ => ⟨S48x24x512, .i1⟩
  | .hbm, ⟨43, _⟩ => ⟨S48x24x512, .f32⟩
  | .hbm, ⟨44, _⟩ => ⟨S48x24x512, .f32⟩
  | .hbm, ⟨45, _⟩ => ⟨S48x24x512, .f32⟩
  | .hbm, ⟨46, _⟩ => ⟨S_, .f32⟩
  | .hbm, ⟨47, _⟩ => ⟨S48x512, .f32⟩
  | .hbm, ⟨48, _⟩ => ⟨S48x2048x512, .bf16⟩
  | .local _ .vmem, ⟨0, _⟩ => ⟨S48x2048x192, .bf16⟩
  | .local _ .vmem, ⟨1, _⟩ => ⟨S24x8x512, .fp8e4m3⟩
  | .local _ .vmem, ⟨2, _⟩ => ⟨S24x512, .f32⟩
  | .local _ .vmem, ⟨3, _⟩ => ⟨S48x512, .f32⟩
  | .local _ .vmem, ⟨4, _⟩ => ⟨S48x2048x512, .bf16⟩
  | _, _ => ⟨S48x2048x24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S48x2048x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x8x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KPoints.lean ====
/- The schedule of the bit-exact kernel's pipeline on its static grid: at which points each window is fetched and written
   back, and the kernel body as the pipeline calls it at a point. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 2 (fun _ => rfl) (by decide)) (P := 1) (by decide) t).mpr (Nat.mod_one _) : ∀ t : Fin grid0.N, Pipeline.Window.fetchOf grid0 false cc0_transform_0 t = true)
/-- Window 1 (operand 2 (%1)) is fetched at the first point only, at any contents of the tables (its index map reads none). -/
theorem fetch0_1 (a : (pcfg0 (F := F)).Adm) : ∀ t : Fin (cfg0 a).N, ((cfg0 a).win 1).fetch t = true ↔ t.val % 96 = 0 :=
  (fun t => Pipeline.Window.fetchOf_const cc0_transform_1 (fun _ _ => rfl) (n := 96) (by decide) t : ∀ t : Fin grid0.N, Pipeline.Window.fetchOf grid0 false cc0_transform_1 t = true ↔ t.val % 96 = 0)
/-- Window 2 (operand 3 (%arg3)) is fetched at the first point only, at any contents of the tables (its index map reads none). -/
theorem fetch0_2 (a : (pcfg0 (F := F)).Adm) : ∀ t : Fin (cfg0 a).N, ((cfg0 a).win 2).fetch t = true ↔ t.val % 96 = 0 :=
  (fun t => Pipeline.Window.fetchOf_const cc0_transform_2 (fun _ _ => rfl) (n := 96) (by decide) t : ∀ t : Fin grid0.N, Pipeline.Window.fetchOf grid0 false cc0_transform_2 t = true ↔ t.val % 96 = 0)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 96 = 0 :=
  (fun t => Pipeline.Window.fetchOf_const cc0_transform_3 (fun _ _ => rfl) (n := 96) (by decide) t : ∀ t : Fin grid0.N, Pipeline.Window.fetchOf grid0 false cc0_transform_3 t = true ↔ t.val % 96 = 0)
/-- Window 4 (operand 5 (%arg5)) is fetched at the first point only, at any contents of the tables (its index map reads none). -/
theorem fetch0_4 (a : (pcfg0 (F := F)).Adm) : ∀ t : Fin (cfg0 a).N, ((cfg0 a).win 4).fetch t = true ↔ t.val % 96 = 0 :=
  (fun t => Pipeline.Window.fetchOf_const cc0_transform_4 (fun _ _ => rfl) (n := 96) (by decide) t : ∀ t : Fin grid0.N, Pipeline.Window.fetchOf grid0 false cc0_transform_4 t = true ↔ t.val % 96 = 0)
/-- Window 5 (result 0 (%2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
/-- The staging buffer of window 1 at a point. -/
abbrev st0_1 (a : (pcfg0 (F := F)).Adm) (t : Fin (cfg0 a).N) := ((cfg0 a).win 1).stage ((cfg0 a).slots t 1)
/-- The staging buffer of window 2 at a point. -/
abbrev st0_2 (a : (pcfg0 (F := F)).Adm) (t : Fin (cfg0 a).N) := ((cfg0 a).win 2).stage ((cfg0 a).slots t 2)
/-- The staging buffer of window 3 at a point. -/
abbrev st0_3 (a : (pcfg0 (F := F)).Adm) (t : Fin (cfg0 a).N) := ((cfg0 a).win 3).stage ((cfg0 a).slots t 3)
/-- The staging buffer of window 4 at a point. -/
abbrev st0_4 (a : (pcfg0 (F := F)).Adm) (t : Fin (cfg0 a).N) := ((cfg0 a).win 4).stage ((cfg0 a).slots t 4)
/-- The staging buffer of window 5 at a point. -/
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_rvq_decode (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _)

end Cert.Kernel.Gen

end
-- ==== Proof.KRuns.lean ====
/- What the runs of the bit-exact kernel's body share: the frame kit, the body's branch conditions in closed form over the
   points, the memrefs, the side conditions assumed. -/
module

public import proofs.«01_k».proof.Proof.Gen.Kernel.Launch
public import proofs.«01_k».proof.Proof.Gen.Kernel.Skeleton
public import proofs.«01_k».proof.Proof.Gen.Kernel.Loops
public import proofs.«01_k».proof.Proof.KPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- No host operation before the kernel takes fresh state. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at this memory's tables. -/
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_arg1
/-- The prefetched counts are read as a whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- Half of the ownership of a prefetched table, at the contents it holds. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 96 = 0 :=
  (fun t => by
    have ht : t.val < 96 := Nat.lt_of_lt_of_eq t.isLt N_0
    have e0 : (grid0.coords t 0).val = t.val / 2 % 48 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 96 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x24x1024 .i32 := spec0_0.stage ((cfgM m hO).slots t 0)
/-- The buffer of window 0 is a whole buffer. -/
abbrev hs0_0 (hO : Ok m) (t : Fin (cfgM m hO).N) : (ms0_0 m hO t).IsWhole := hstage0_0 (((cfgM m hO).slots t 0).cast nbuf0_0)
/-- The buffer that the kernel sees as window 1 at a point. -/
abbrev ms0_1 (hO : Ok m) (t : Fin (cfgM m hO).N) : Memref sig .tc .vmem S24x8x1024 .i16 := spec0_1.stage ((cfgM m hO).slots t 1)
/-- The buffer of window 1 is a whole buffer. -/
abbrev hs0_1 (hO : Ok m) (t : Fin (cfgM m hO).N) : (ms0_1 m hO t).IsWhole := hstage0_1 (((cfgM m hO).slots t 1).cast nbuf0_1)
/-- The buffer that the kernel sees as window 2 at a point. -/
abbrev ms0_2 (hO : Ok m) (t : Fin (cfgM m hO).N) : Memref sig .tc .vmem S24x8x512 .fp8e4m3 := spec0_2.stage ((cfgM m hO).slots t 2)
/-- The buffer of window 2 is a whole buffer. -/
abbrev hs0_2 (hO : Ok m) (t : Fin (cfgM m hO).N) : (ms0_2 m hO t).IsWhole := hstage0_2 (((cfgM m hO).slots t 2).cast nbuf0_2)
/-- The buffer that the kernel sees as window 3 at a point. -/
abbrev ms0_3 (hO : Ok m) (t : Fin (cfgM m hO).N) : Memref sig .tc .vmem S24x512 .f32 := spec0_3.stage ((cfgM m hO).slots t 3)
/-- The buffer of window 3 is a whole buffer. -/
abbrev hs0_3 (hO : Ok m) (t : Fin (cfgM m hO).N) : (ms0_3 m hO t).IsWhole := hstage0_3 (((cfgM m hO).slots t 3).cast nbuf0_3)
/-- The buffer that the kernel sees as window 4 at a point. -/
abbrev ms0_4 (hO : Ok m) (t : Fin (cfgM m hO).N) : Memref sig .tc .vmem S24x512 .f32 := spec0_4.stage ((cfgM m hO).slots t 4)
/-- The buffer of window 4 is a whole buffer. -/
abbrev hs0_4 (hO : Ok m) (t : Fin (cfgM m hO).N) : (ms0_4 m hO t).IsWhole := hstage0_4 (((cfgM m hO).slots t 4).cast nbuf0_4)
/-- The buffer that the kernel sees as window 5 at a point. -/
abbrev ms0_5 (hO : Ok m) (t : Fin (cfgM m hO).N) : Memref sig .tc .vmem S1x1024x512 .bf16 := spec0_5.stage ((cfgM m hO).slots t 5)
/-- The buffer of window 5 is a whole buffer. -/
abbrev hs0_5 (hO : Ok m) (t : Fin (cfgM m hO).N) : (ms0_5 m hO t).IsWhole := hstage0_5 (((cfgM m hO).slots t 5).cast nbuf0_5)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos)))
variable {m} in
/-- What the hypotheses say of the count read at one grid point. -/
theorem Hyps.c0 {hO : Ok m} (hH : Hyps m hO) (c : Dev nD) (t : Fin (cfgM m hO).N) :
    k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos))) := (hH c t)
variable {m} in
/-- The hypotheses, from the same fact at every device and point. -/
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S768x128 .i32 := Memref.whole cc0_scratch0
/-- The scratch that holds the weights. -/
abbrev scM0_1 : Memref sig .tc .vmem S192x512 .bf16 := Memref.whole cc0_scratch1
/-- The scratch that holds the words found. -/
abbrev scM0_2 : Memref sig .tc .vmem S768x128 .i32 := Memref.whole cc0_scratch2
/-- The scratch `arg9` the kernel carries between points, as a view: what it holds is stated through it. -/
abbrev VS0_0 : View sig .tc .vmem S768x128 .i32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KRunA.lean ====
/- The whole-body run of the bit-exact kernel at the first grid point, where the scratch tables are filled. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3136000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_A (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : cond0_0 i)
    (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (k0_hw1 : k0_chk1 (tbM0_0.view.readAt (Elt F) (Rect.unit (s := S48) (k0_off1 i) S1.size (k0_off1_inb i)).toLoadRect xt0 (Shape.Idx.first (numel1_S1.symm ▸ Nat.one_pos)))) :
    { LS0 : List (View.Piece (Elt F) S768x128 .i32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ f, arg9.view.loc (c : Thread nD τ) ↦[arg9.view.set]{fullShare} arg9.view.writes (Elt F) f LS0) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_rvq_decode i tbM0_0 htbM0_0 arg3 harg3 arg4 harg4 arg5 harg5 arg6 harg6 arg7 harg7 arg8 harg8 arg9 harg9 arg10 harg10 arg11 harg11) K } := by
  refine ⟨?_, fun E K => ?run⟩
  case run =>
    simp only [cc0_rvq_decode_eq_skeleton]; unfold cc0_rvq_decode_skel
    simp only [k0_part52_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexact HT0

end Cert.Kernel.Gen

end
-- ==== Proof.KRunB.lean ====
/- The whole-body run of the bit-exact kernel at the grid points after the first. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 95: 95 of 96), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5) at anything, handed back at some contents nothing names. -/
noncomputable def kernelRun0_B (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : ¬cond0_0 i)
    (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs0 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos)))) :
    { LS0 : List (View.Piece (Elt F) S768x128 .i32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_rvq_decode i tbM0_0 htbM0_0 arg3 harg3 arg4 harg4 arg5 harg5 arg6 harg6 arg7 harg7 arg8 harg8 arg9 harg9 arg10 harg10 arg11 harg11) K } := by
  refine ⟨[], fun E K => ?run⟩
  case run =>
    simp only [cc0_rvq_decode_eq_skeleton]; unfold cc0_rvq_decode_skel
    simp only [k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, ⟨%ds2, %fs2, -, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _; isplitr; · ipureintro; exact harg9.read_unread _
      iexact HS0
    isplitl [HS1]
    · iexists _, _; isplitr; swap; · iexact HS1
      ipureintro; rfl
    isplitl [HS2]
    · iexists _, _; isplitr; swap; · iexact HS2
      ipureintro; rfl
    iexact HT0

end Cert.Kernel.Gen

end
-- ==== Proof.KFrame.lean ====
/- The frame of the bit-exact kernel: the region's invariant, the body's obligation at a generic point, the launch. What the
   result's blocks hold is not named. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg9`, which the kernel carries between points, cover it: 192 pieces of `S4x128` tiling it (Lib/Ring.lean `Piece.tiledL`). -/
theorem scover0_A_0 (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : cond0_0 i)
    (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (k0_hw1 : k0_chk1 (tbM0_0.view.readAt (Elt F) (Rect.unit (s := S48) (k0_off1 i) S1.size (k0_off1_inb i)).toLoadRect xt0 (Shape.Idx.first (numel1_S1.symm ▸ Nat.one_pos)))) (y : S768x128.Idx) :
    ∃ pc ∈ (kernelRun0_A c i arg3 harg3 arg4 harg4 arg5 harg5 arg6 harg6 arg7 harg7 arg8 harg8 arg9 harg9 arg10 harg10 arg11 harg11 hc0 x0 x1 x2 x3 x4 xt0 k0_hw1).1, y ∈ pc.1.set :=
  View.cover_of_tiledL (kernelRun0_A c i arg3 harg3 arg4 harg4 arg5 harg5 arg6 harg6 arg7 harg7 arg8 harg8 arg9 harg9 arg10 harg10 arg11 harg11 hc0 x0 x1 x2 x3 x4 xt0 k0_hw1).1 S4x128.size (by sl_kernel_rfl) y

/-- What case A leaves in scratch `arg9`: its pieces read back over junk. -/
def sout0_A_0 (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : cond0_0 i)
    (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (k0_hw1 : k0_chk1 (tbM0_0.view.readAt (Elt F) (Rect.unit (s := S48) (k0_off1 i) S1.size (k0_off1_inb i)).toLoadRect xt0 (Shape.Idx.first (numel1_S1.symm ▸ Nat.one_pos)))) : Vec F S768x128 .i32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 x0 x1 x2 x3 x4 xt0 k0_hw1).1)

/-- Case B stores nothing into scratch `arg9`: it holds what the point before left. -/
def sout0_B_0 (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : ¬cond0_0 i)
    (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs0 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos)))) : Vec F S768x128 .i32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S768x128 .i32
  | 0, hn => sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) scM0_2 (Memref.isWhole_whole _) ((hcond0_0 ⟨0, hn⟩).mpr (Nat.zero_mod _)) (iblk m hO c 0 ⟨0, hn⟩) (iblk m hO c 1 ⟨0, hn⟩) (iblk m hO c 2 ⟨0, hn⟩) (iblk m hO c 3 ⟨0, hn⟩) (iblk m hO c 4 ⟨0, hn⟩) (tbl m 0) (Hyps.c0 hH c ⟨0, hn⟩)
  | n + 1, hn =>
    if h0 : (n + 1) % 96 = 0 then
      sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) ((hcond0_0 ⟨n + 1, hn⟩).mpr h0) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (Hyps.c0 hH c ⟨n + 1, hn⟩)
    else
      sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) scM0_2 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO hH c n (Nat.lt_of_succ_lt hn)) (Hyps.c0 hH c ⟨n + 1, hn⟩)

/-- `outsAt0` at a point of case A: that case's contents. -/
theorem outsAt0_A (hO : Ok m) (hH : Hyps m hO) (c : Dev nD) (t : Fin (cfgM m hO).N) (h0 : t.val % 96 = 0) :
    outsAt0 m hO hH c t.val t.isLt = sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) ((hcond0_0 t).mpr h0) (iblk m hO c 0 t) (iblk m hO c 1 t) (iblk m hO c 2 t) (iblk m hO c 3 t) (iblk m hO c 4 t) (tbl m 0) (Hyps.c0 hH c t) := by
  obtain ⟨n, hn⟩ := t
  cases n with
  | zero => exact rfl
  | succ n => exact (dif_pos h0).trans rfl

/-- `outsAt0` at a point of case B: that case's contents, over what the point before left. -/
theorem outsAt0_B (hO : Ok m) (hH : Hyps m hO) (c : Dev nD) (t : Fin (cfgM m hO).N) (h0 : ¬t.val % 96 = 0) :
    outsAt0 m hO hH c t.val t.isLt = sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) (fun h => h0 ((hcond0_0 t).mp h)) (iblk m hO c 0 t) (iblk m hO c 1 t) (iblk m hO c 2 t) (iblk m hO c 3 t) (iblk m hO c 4 t) (tbl m 0) (outsAt0 m hO hH c (t.val - 1) (Nat.lt_of_le_of_lt (Nat.sub_le _ _) t.isLt)) (Hyps.c0 hH c t) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn)) ∗ (∃ d, owns (c : Thread nD τ) scM0_1 fullShare d) ∗ (∃ d, owns (c : Thread nD τ) scM0_2 fullShare d)) ∗ (∃ r, prngReg c r)) ∗ Pipeline.ΦT pre0 (tbl m) c)

/-- Before the first point the carried state is the untouched scratch and the tables. -/
theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn)) ∗ (∃ d, owns (c : Thread nD τ) scM0_1 fullShare d) ∗ (∃ d, owns (c : Thread nD τ) scM0_2 fullShare d)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega))) ∗ (∃ d, owns (c : Thread nD τ) scM0_1 fullShare d) ∗ (∃ d, owns (c : Thread nD τ) scM0_2 fullShare d)) ∗ (∃ r, prngReg c r)) ∗ Pipeline.ΦT pre0 (tbl m) c) := by
  cases n with
  | zero => exact absurd rfl hz
  | succ n => rfl

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
/-- After a point the buffer of window 1 holds its block still. -/
theorem after0_1 (hO : Ok m) (hH : Hyps m hO) (c : Dev nD) (t : Fin (cfgM m hO).N) : (dats m hO hH 0 c).after 1 t = iblk m hO c 1 t := by dsimp only [dats]; try rfl
/-- After a point the buffer of window 2 holds its block still. -/
theorem after0_2 (hO : Ok m) (hH : Hyps m hO) (c : Dev nD) (t : Fin (cfgM m hO).N) : (dats m hO hH 0 c).after 2 t = iblk m hO c 2 t := by dsimp only [dats]; try rfl
/-- After a point the buffer of window 3 holds its block still. -/
theorem after0_3 (hO : Ok m) (hH : Hyps m hO) (c : Dev nD) (t : Fin (cfgM m hO).N) : (dats m hO hH 0 c).after 3 t = iblk m hO c 3 t := by dsimp only [dats]; try rfl
/-- After a point the buffer of window 4 holds its block still. -/
theorem after0_4 (hO : Ok m) (hH : Hyps m hO) (c : Dev nD) (t : Fin (cfgM m hO).N) : (dats m hO hH 0 c).after 4 t = iblk m hO c 4 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
/-- Before a point the buffer of window 1 holds its block. -/
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
/-- Before a point the buffer of window 2 holds its block. -/
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
/-- Before a point the buffer of window 3 holds its block. -/
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
/-- Before a point the buffer of window 4 holds its block. -/
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ (∃ d, owns (c : Thread nD τ) (ms0_5 m hO t) fullShare d))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).owesAt () t.succ = (dats m hO hH 0 c).owesAt () t.castSucc from rfl,
    after0_0, after0_1, after0_2, after0_3, after0_4]
  rw [show (dats m hO hH 0 c).Φ t.succ = PhiS m hO hH c (t.val + 1) t.isLt from rfl, PhiS_succ, PhiT0_eq]
  have hN : t.val < 96 := lt_of_lt_of_eq t.isLt (show (cfgM m hO).N = 96 from N_0)
  by_cases h0 : t.val % 96 = 0
  · by_cases hz : t.val = 0
    · rw [PhiS_castSucc m hO hH c t, PhiS_zero m hO hH c _ _ hz, PhiT0_eq, PhiA0_eq]
      rw [outsAt0_A m hO hH c t h0]
      unfold sout0_A_0
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ ((hcond0_0 t).mpr h0) (iblk m hO c 0 t) (iblk m hO c 1 t) (iblk m hO c 2 t) (iblk m hO c 3 t) (iblk m hO c 4 t) (tbl m 0) (Hyps.c0 hH c t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HT0]; · iexact HT0
      iintro ⟨H0, H1, H2, H3, H4, H5, ⟨%es0, HS0⟩, HS1, HS2, HT0⟩
      isplitl [HS0 HS1 HS2 Hg HT0]
      · isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5
    · exfalso; have hN : t.val < 96 := lt_of_lt_of_eq t.isLt (show (cfgM m hO).N = 96 from N_0); omega
  · by_cases hz : t.val = 0
    · exfalso; have hN : t.val < 96 := lt_of_lt_of_eq t.isLt (show (cfgM m hO).N = 96 from N_0); omega
    · rw [PhiS_castSucc m hO hH c t, PhiS_pos m hO hH c _ _ hz, PhiT0_eq]
      rw [outsAt0_B m hO hH c t h0]
      unfold sout0_B_0
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (tbl m 0) _ (Hyps.c0 hH c t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HT0]; · iexact HT0
      iintro ⟨H0, H1, H2, H3, H4, H5, HS0, HS1, HS2, HT0⟩
      isplitl [HS0 HS1 HS2 Hg HT0]
      · isplitl [HS0 HS1 HS2 Hg]
        · isplitl [HS0 HS1 HS2]
          · isplitl [HS0]
            · iexact HS0
            isplitl [HS1]
            · iexact HS1
            iexact HS2
          iexact Hg
        iexact HT0
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨⟨HS0, HS1, HS2⟩, Hg⟩, -⟩
  isplitl [HS0 HS1 HS2]
  · isplitl [HS0]
    · iexists _; iexact HS0
    isplitl [HS1]
    · iexact HS1
    iexact HS2
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 96 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_track_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel.Gen

end
-- ==== Proof.PreWords.lean ====
/- The precondition `in_range`, read back as bounds on the words of the two integer arguments. -/
module

public import proofs.«01_k».proof.Proof.Gen.Pre_in_range
public import Idealize.ShloMosaic.Lib.ReduceAll
public import Idealize.ShloMosaic.Lib.Affine

@[expose] public section

namespace Cert.PreWords

open Idealize.ShloMosaic Idealize.SL.Sem Cert.Pre_in_range

variable {F : FTy → Type} [FloatOps F]

instance : Subsingleton S_.Idx := ⟨fun a b => funext fun i => i.elim0⟩

/-- If the conjunction of two bits is one, both are. -/
theorem andi_one {x y : BitVec 1} (h : IntOp.andi x y = 1#1) : x = 1#1 ∧ y = 1#1 := by
  revert x y; decide

/-- Under the precondition every code is in [0, 1024) and every count of active levels in [0, 24]. -/
theorem bounds (a0 : IVec S48x2048x24 32) (a1 : IVec S48 32) (a2 : IVec S24x1024x8 16) (a3 : FVec F S24x8x512 .fp8e4m3)
    (a4 a5 : FVec F S24x512 .f32) (h : Cert.Pre_in_range.fn a0 a1 a2 a3 a4 a5 = fun _ => 1#1) :
    (∀ i, 0 ≤ (a0 i).toInt ∧ (a0 i).toInt < 1024) ∧ (∀ i, 0 ≤ (a1 i).toInt ∧ (a1 i).toInt ≤ 24) := by
  have e := congrFun h (Shape.Idx.first Gen.h_S_)
  unfold Cert.Pre_in_range.fn at e
  dsimp only [andi] at e
  obtain ⟨e1, e13⟩ := andi_one e
  obtain ⟨e6, e9⟩ := andi_one e1
  obtain ⟨e2, e5⟩ := andi_one e6
  refine ⟨fun i => ⟨?_, ?_⟩, fun i => ⟨?_, ?_⟩⟩
  · have := IntOp.cmpi_sge.1 (Host.reduce_andi_all _ _ _ _ _ e2 i); simpa [broadcastInDim, constantI] using this
  · have := IntOp.cmpi_slt.1 (Host.reduce_andi_all _ _ _ _ _ e5 i); simpa [broadcastInDim, constantI] using this
  · have := IntOp.cmpi_sge.1 (Host.reduce_andi_all _ _ _ _ _ e9 i); simpa [broadcastInDim, constantI] using this
  · have := IntOp.cmpi_sle.1 (Host.reduce_andi_all _ _ _ _ _ e13 i); simpa [broadcastInDim, constantI] using this

/-- A word in [0, 24] is one of 25 literals. -/
theorem word_of_bounds (x : BitVec 32) (h0 : 0 ≤ x.toInt) (h1 : x.toInt ≤ 24) : ∃ n : Fin 25, x = BitVec.ofNat 32 n.val := by
  have : x.toNat ≤ 24 := by
    simp only [BitVec.toInt] at h0 h1; split at h1 <;> omega
  exact ⟨⟨x.toNat, by omega⟩, by simp⟩

end Cert.PreWords
-- ==== Proof.KHyps.lean ====
/- The precondition gives the side conditions the bit-exact kernel's body assumes. -/
module

public import proofs.«01_k».proof.Defs
public import proofs.«01_k».proof.Proof.KFrame
public import proofs.«01_k».proof.Proof.PreWords

@[expose] public section

namespace Cert.Kernel.Gen

open Idealize.ShloMosaic Idealize.ShloMosaic.TcCoe Idealize.SL.Sem

set_option maxRecDepth 100000 in
/-- For a count of at most 24 levels every access of the body is in bounds. -/
theorem chk1_all : ∀ n : Fin 25, k0_chk1 (BitVec.ofNat 32 n.val) := by
  decide +kernel

/-- The table's words are the argument's. -/
theorem tbl_eq {F : FTy → Type} [FloatOps F] (m : (ℓ : Loc nD τ sig) → Buf (Elt F) ℓ) :
    tbl m 0 = m (((0 : Dev nD) : Thread nD τ).loc main_arg1) := by
  unfold tbl
  exact V_main_arg1 m 0

/-- The pipeline asks nothing of the table's words. -/
theorem ok_of_pre {F : FTy → Type} [FloatOps F] (m : (ℓ : Loc nD τ sig) → Buf (Elt F) ℓ) : Ok m := trivial

/-- The word of the table the body reads at grid coordinates `i`: the count of active levels. -/
abbrev nWord {F : FTy → Type} [FloatOps F] (c : Dev nD) (i : grid0.Coords) (xt0 : TbBuf0 (F := F) c tbM0_0) : BitVec 32 :=
  tbM0_0.view.readAt (Elt F) (Rect.unit (s := S48) (k0_off1 i) S1.size (k0_off1_inb i)).toLoadRect xt0 (Shape.Idx.first (numel1_S1.symm ▸ Nat.one_pos))

/-- It is a word of the table. -/
theorem nWord_mem {F : FTy → Type} [FloatOps F] (c : Dev nD) (i : grid0.Coords) (xt0 : TbBuf0 (F := F) c tbM0_0) (P : BitVec 32 → Prop)
    (h : ∀ y, P (xt0 y)) : P (nWord c i xt0) := by
  unfold nWord
  rw [View.readAt_apply]
  exact h _

/-- The side conditions of the body, from the precondition. -/
theorem hyps_of_pre (m : (ℓ : Loc nD τ sig) → Buf (Elt Bits) ℓ) (h : Cert.Pre_Kernel m) (hO : Ok m) : Hyps m hO := by
  intro c t
  have hb := (PreWords.bounds _ _ _ _ _ _ (h 0)).2
  obtain ⟨n, hn⟩ := nWord_mem (F := Bits) c (grid0.coords t) (tbl m 0) (fun w => ∃ n : Fin 25, w = BitVec.ofNat 32 n.val) (by
    rw [tbl_eq]
    exact fun i => PreWords.word_of_bounds _ (hb i).1 (hb i).2)
  have := chk1_all n
  rw [← hn] at this
  exact this

end Cert.Kernel.Gen
-- ==== Proof.KiPoints.lean ====
/- The schedule of the idealized kernel's pipeline on its static grid: at which points each window is fetched and written
   back, and the kernel body as the pipeline calls it at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 2 (fun _ => rfl) (by decide)) (P := 1) (by decide) t).mpr (Nat.mod_one _) : ∀ t : Fin grid0.N, Pipeline.Window.fetchOf grid0 false cc0_transform_0 t = true)
/-- Window 1 (operand 2 (%1)) is fetched at the first point only, at any contents of the tables (its index map reads none). -/
theorem fetch0_1 (a : (pcfg0 (F := F)).Adm) : ∀ t : Fin (cfg0 a).N, ((cfg0 a).win 1).fetch t = true ↔ t.val % 96 = 0 :=
  (fun t => Pipeline.Window.fetchOf_const cc0_transform_1 (fun _ _ => rfl) (n := 96) (by decide) t : ∀ t : Fin grid0.N, Pipeline.Window.fetchOf grid0 false cc0_transform_1 t = true ↔ t.val % 96 = 0)
/-- Window 2 (operand 3 (%arg3)) is fetched at the first point only, at any contents of the tables (its index map reads none). -/
theorem fetch0_2 (a : (pcfg0 (F := F)).Adm) : ∀ t : Fin (cfg0 a).N, ((cfg0 a).win 2).fetch t = true ↔ t.val % 96 = 0 :=
  (fun t => Pipeline.Window.fetchOf_const cc0_transform_2 (fun _ _ => rfl) (n := 96) (by decide) t : ∀ t : Fin grid0.N, Pipeline.Window.fetchOf grid0 false cc0_transform_2 t = true ↔ t.val % 96 = 0)
/-- Window 3 (operand 4 (%arg4)) is fetched at the first point only, at any contents of the tables (its index map reads none). -/
theorem fetch0_3 (a : (pcfg0 (F := F)).Adm) : ∀ t : Fin (cfg0 a).N, ((cfg0 a).win 3).fetch t = true ↔ t.val % 96 = 0 :=
  (fun t => Pipeline.Window.fetchOf_const cc0_transform_3 (fun _ _ => rfl) (n := 96) (by decide) t : ∀ t : Fin grid0.N, Pipeline.Window.fetchOf grid0 false cc0_transform_3 t = true ↔ t.val % 96 = 0)
/-- Window 4 (operand 5 (%arg5)) is fetched at the first point only, at any contents of the tables (its index map reads none). -/
theorem fetch0_4 (a : (pcfg0 (F := F)).Adm) : ∀ t : Fin (cfg0 a).N, ((cfg0 a).win 4).fetch t = true ↔ t.val % 96 = 0 :=
  (fun t => Pipeline.Window.fetchOf_const cc0_transform_4 (fun _ _ => rfl) (n := 96) (by decide) t : ∀ t : Fin grid0.N, Pipeline.Window.fetchOf grid0 false cc0_transform_4 t = true ↔ t.val % 96 = 0)
/-- Window 5 (result 0 (%2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
/-- The staging buffer of window 1 at a point. -/
abbrev st0_1 (a : (pcfg0 (F := F)).Adm) (t : Fin (cfg0 a).N) := ((cfg0 a).win 1).stage ((cfg0 a).slots t 1)
/-- The staging buffer of window 2 at a point. -/
abbrev st0_2 (a : (pcfg0 (F := F)).Adm) (t : Fin (cfg0 a).N) := ((cfg0 a).win 2).stage ((cfg0 a).slots t 2)
/-- The staging buffer of window 3 at a point. -/
abbrev st0_3 (a : (pcfg0 (F := F)).Adm) (t : Fin (cfg0 a).N) := ((cfg0 a).win 3).stage ((cfg0 a).slots t 3)
/-- The staging buffer of window 4 at a point. -/
abbrev st0_4 (a : (pcfg0 (F := F)).Adm) (t : Fin (cfg0 a).N) := ((cfg0 a).win 4).stage ((cfg0 a).slots t 4)
/-- The staging buffer of window 5 at a point. -/
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_rvq_decode (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _)

end Cert.KernelIdeal.Gen

end
-- ==== Proof.KiRuns.lean ====
/- What the runs of the idealized kernel share: the buffers at the region's entry, the prefetched table, the windows'
   blocks, the branch condition in closed form, the staging and scratch memrefs, the side condition assumed of the
   table's words. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KiPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- No host operation before the kernel takes fresh state. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at this memory's tables. -/
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_arg1
/-- The prefetched counts are read as a whole buffer. -/
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- Half of the ownership of a prefetched table, at the contents it holds. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c)),
      (Pipeline.RDat.FramePost.arr_in h c 4 rfl).trans ((hA c 4).trans (V_main_arg5 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 96 = 0 :=
  (fun t => by
    have ht : t.val < 96 := Nat.lt_of_lt_of_eq t.isLt N_0
    have e0 : (grid0.coords t 0).val = t.val / 2 % 48 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 96 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x24x1024 .i32 := spec0_0.stage ((cfgM m hO).slots t 0)
/-- The buffer of window 0 is a whole buffer. -/
abbrev hs0_0 (hO : Ok m) (t : Fin (cfgM m hO).N) : (ms0_0 m hO t).IsWhole := hstage0_0 (((cfgM m hO).slots t 0).cast nbuf0_0)
/-- The buffer that the kernel sees as window 1 at a point. -/
abbrev ms0_1 (hO : Ok m) (t : Fin (cfgM m hO).N) : Memref sig .tc .vmem S24x8x1024 .i16 := spec0_1.stage ((cfgM m hO).slots t 1)
/-- The buffer of window 1 is a whole buffer. -/
abbrev hs0_1 (hO : Ok m) (t : Fin (cfgM m hO).N) : (ms0_1 m hO t).IsWhole := hstage0_1 (((cfgM m hO).slots t 1).cast nbuf0_1)
/-- The buffer that the kernel sees as window 2 at a point. -/
abbrev ms0_2 (hO : Ok m) (t : Fin (cfgM m hO).N) : Memref sig .tc .vmem S24x8x512 .fp8e4m3 := spec0_2.stage ((cfgM m hO).slots t 2)
/-- The buffer of window 2 is a whole buffer. -/
abbrev hs0_2 (hO : Ok m) (t : Fin (cfgM m hO).N) : (ms0_2 m hO t).IsWhole := hstage0_2 (((cfgM m hO).slots t 2).cast nbuf0_2)
/-- The buffer that the kernel sees as window 3 at a point. -/
abbrev ms0_3 (hO : Ok m) (t : Fin (cfgM m hO).N) : Memref sig .tc .vmem S24x512 .f32 := spec0_3.stage ((cfgM m hO).slots t 3)
/-- The buffer of window 3 is a whole buffer. -/
abbrev hs0_3 (hO : Ok m) (t : Fin (cfgM m hO).N) : (ms0_3 m hO t).IsWhole := hstage0_3 (((cfgM m hO).slots t 3).cast nbuf0_3)
/-- The buffer that the kernel sees as window 4 at a point. -/
abbrev ms0_4 (hO : Ok m) (t : Fin (cfgM m hO).N) : Memref sig .tc .vmem S24x512 .f32 := spec0_4.stage ((cfgM m hO).slots t 4)
/-- The buffer of window 4 is a whole buffer. -/
abbrev hs0_4 (hO : Ok m) (t : Fin (cfgM m hO).N) : (ms0_4 m hO t).IsWhole := hstage0_4 (((cfgM m hO).slots t 4).cast nbuf0_4)
/-- The buffer that the kernel sees as window 5 at a point. -/
abbrev ms0_5 (hO : Ok m) (t : Fin (cfgM m hO).N) : Memref sig .tc .vmem S1x1024x512 .bf16 := spec0_5.stage ((cfgM m hO).slots t 5)
/-- The buffer of window 5 is a whole buffer. -/
abbrev hs0_5 (hO : Ok m) (t : Fin (cfgM m hO).N) : (ms0_5 m hO t).IsWhole := hstage0_5 (((cfgM m hO).slots t 5).cast nbuf0_5)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos)))
variable {m} in
/-- What the hypotheses say of the count read at one grid point. -/
theorem Hyps.c0 {hO : Ok m} (hH : Hyps m hO) (c : Dev nD) (t : Fin (cfgM m hO).N) :
    k0_chk1 (tbM0_0.view.readAt (Elt F) (Rect.unit (s := S48) (k0_off1 (grid0.coords t)) S1.size (k0_off1_inb (grid0.coords t))).toLoadRect (tbl m 0) (Shape.Idx.first (numel1_S1.symm ▸ Nat.one_pos))) := (hH c t)
variable {m} in
/-- The hypotheses, from the same fact at every device and point. -/
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S768x128 .i32 := Memref.whole cc0_scratch0
/-- The scratch that holds the weights. -/
abbrev scM0_1 : Memref sig .tc .vmem S192x512 .bf16 := Memref.whole cc0_scratch1
/-- The scratch that holds the words found. -/
abbrev scM0_2 : Memref sig .tc .vmem S768x128 .i32 := Memref.whole cc0_scratch2
/-- The scratch `arg9` the kernel carries between points, as a view: what it holds is stated through it. -/
abbrev VS0_0 : View sig .tc .vmem S768x128 .i32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KiHyps.lean ====
/- The precondition gives the side conditions the idealized kernel's body assumes. -/
module

public import proofs.«01_k».proof.Defs
public import proofs.«01_k».proof.Proof.KiRuns
public import proofs.«01_k».proof.Proof.PreWords

@[expose] public section

namespace Cert.KernelIdeal.Gen

open Idealize.ShloMosaic Idealize.ShloMosaic.TcCoe Idealize.SL.Sem

set_option maxRecDepth 100000 in
/-- For a count of at most 24 levels every access of the body is in bounds. -/
theorem chk1_all : ∀ n : Fin 25, k0_chk1 (BitVec.ofNat 32 n.val) := by
  decide +kernel

/-- The table's words are the argument's. -/
theorem tbl_eq {F : FTy → Type} [FloatOps F] (m : (ℓ : Loc nD τ sig) → Buf (Elt F) ℓ) :
    tbl m 0 = m (((0 : Dev nD) : Thread nD τ).loc main_arg1) := by
  unfold tbl
  exact V_main_arg1 m 0

/-- The tables are admissible in every memory. -/
theorem ok_of_pre {F : FTy → Type} [FloatOps F] (m : (ℓ : Loc nD τ sig) → Buf (Elt F) ℓ) : Ok m := trivial

/-- The word of the table the body reads at grid coordinates `i`: the count of active levels. -/
abbrev nWord {F : FTy → Type} [FloatOps F] (c : Dev nD) (i : grid0.Coords) (xt0 : TbBuf0 (F := F) c tbM0_0) : BitVec 32 :=
  tbM0_0.view.readAt (Elt F) (Rect.unit (s := S48) (k0_off1 i) S1.size (k0_off1_inb i)).toLoadRect xt0 (Shape.Idx.first (numel1_S1.symm ▸ Nat.one_pos))

/-- It is a word of the table. -/
theorem nWord_mem {F : FTy → Type} [FloatOps F] (c : Dev nD) (i : grid0.Coords) (xt0 : TbBuf0 (F := F) c tbM0_0) (P : BitVec 32 → Prop)
    (h : ∀ y, P (xt0 y)) : P (nWord c i xt0) := by
  unfold nWord
  rw [View.readAt_apply]
  exact h _

/-- The word of the table the body reads at a point is one of the 25 admitted counts. -/
theorem word_of_pre (m : (ℓ : Loc nD τ sig) → Buf (Elt Ideal) ℓ) (h : Cert.Pre_KernelIdeal m) (c : Dev nD) (i : grid0.Coords) :
    ∃ n : Fin 25, nWord (F := Ideal) c i (tbl m 0) = BitVec.ofNat 32 n.val := by
  have hb := (PreWords.bounds _ _ _ _ _ _ (h 0)).2
  refine nWord_mem (F := Ideal) c i (tbl m 0) (fun w => ∃ n : Fin 25, w = BitVec.ofNat 32 n.val) ?_
  rw [tbl_eq]
  exact fun i => PreWords.word_of_bounds _ (hb i).1 (hb i).2

/-- The precondition gives the run's hypotheses: every count is at most 24. -/
theorem hyps_of_pre (m : (ℓ : Loc nD τ sig) → Buf (Elt Ideal) ℓ) (h : Cert.Pre_KernelIdeal m) (hO : Ok m) : Hyps m hO := by
  intro c t
  obtain ⟨n, hn⟩ := word_of_pre m h c (grid0.coords t)
  have := chk1_all n
  rw [← hn] at this
  exact this

end Cert.KernelIdeal.Gen
-- ==== Proof.KiRunB.lean ====
/- The whole-body run of the idealized kernel at the later grid points (the scratch tables are read as the point before
   left them), with the pieces it stores into the output block named. -/
module

public import proofs.«01_k».proof.Proof.KiRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in the output's staging memref at a point that is not the first, as pieces (last first),
    with the proof that on whole staging memrefs at their contents, the table scratch at `xs0`, the weight scratch at `xs1`
    and the word scratch at `xs2`, the body runs to the continuation with these pieces written and everything it only reads
    as it was. -/
noncomputable def kernelRun0_B (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : ¬cond0_0 i)
    (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs0 : Vec F S768x128 .i32) (xs1 : Vec F S192x512 .bf16) (xs2 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos)))) :
    { L5 : List (View.Piece (Elt F) S1x1024x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ owns (c : Thread nD τ) arg10 fullShare xs1 ∗ (∃ d, owns (c : Thread nD τ) arg11 fullShare d) ∗ tbPt0 c tbM0_0 xt0) -∗ K ⟨⟩))
          ⊢ wp frame (wpE (defs₀ (F := F)) Variants.none c none) E (cc0_rvq_decode i tbM0_0 htbM0_0 arg3 harg3 arg4 harg4 arg5 harg5 arg6 harg6 arg7 harg7 arg8 harg8 arg9 harg9 arg10 harg10 arg11 harg11) K } := by
  refine ⟨?_, fun E K => ?run⟩
  case run =>
    simp only [cc0_rvq_decode_eq_skeleton]; unfold cc0_rvq_decode_skel
    simp only [k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1; obtain rfl := harg11.eq_unread hfs2
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    isplitl [HS2]
    · iexists _, _; isplitr; swap; · iexact HS2
      ipureintro; rfl
    iexact HT0

end Cert.KernelIdeal.Gen

end
-- ==== Proof.KiRunA.lean ====
/- The whole-body run of the idealized kernel at the first grid point (the scratch tables are filled), with the pieces
   it stores into the output block and into the two carried scratch buffers named. -/
module

public import proofs.«01_k».proof.Proof.KiRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3136000 in
/-- What the body's stores leave at the first grid point, as pieces (last first) of the output's staging memref, of the
    table scratch and of the weight scratch, with the proof that on whole staging memrefs at their contents, those buffers
    at anything and the word scratch at `xs2`, the body runs to the continuation with these pieces written and everything
    it only reads as it was. -/
noncomputable def kernelRun0_A (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : cond0_0 i)
    (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs2 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos)))) :
    Σ' (L5 : List (View.Piece (Elt F) S1x1024x512 .bf16)) (LS0 : List (View.Piece (Elt F) S768x128 .i32)), { LS1 : List (View.Piece (Elt F) S192x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs2 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ d, owns (c : Thread nD τ) arg11 fullShare d) ∗ tbPt0 c tbM0_0 xt0) -∗ K ⟨⟩))
          ⊢ wp frame (wpE (defs₀ (F := F)) Variants.none c none) E (cc0_rvq_decode i tbM0_0 htbM0_0 arg3 harg3 arg4 harg4 arg5 harg5 arg6 harg6 arg7 harg7 arg8 harg8 arg9 harg9 arg10 harg10 arg11 harg11) K } := by
  refine ⟨?_, ?_, ?_, fun E K => ?run⟩
  case run =>
    simp only [cc0_rvq_decode_eq_skeleton]; unfold cc0_rvq_decode_skel
    simp only [k0_part52_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%fs2, %hfs2, HS2⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs2
    sl_exec (disch := first | sl_exact hc0 | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    isplitl [HS2]
    · iexists _, _; isplitr; swap; · iexact HS2
      ipureintro; rfl
    iexact HT0

end Cert.KernelIdeal.Gen

end
-- ==== Proof.KiTab.lean ====
/- The table scratch after the first point: each level's code books, two code words a table word, 128 codes a lane row. -/
module

public import proofs.«01_k».proof.Proof.KiRunA
public import Idealize.ShloMosaic.Lib.Pointwise
public import Idealize.ShloMosaic.Lib.BitcastPair
public import Idealize.ShloMosaic.Lib.WritesUnit

@[expose] public section

set_option maxRecDepth 65536

noncomputable section

namespace Cert.KernelIdeal.Gen

open Idealize.ShloMosaic Idealize.ShloMosaic.TcCoe

variable {F : FTy → Type} [FloatOps F]

/-- Each stretch of 128 words lies in the packed level. -/
theorem tab_slices : ∀ i : Fin 192, S4x1024.Slices ![0, 128 * (i.val % 8)] S4x128 := by decide +kernel

/-- Each level's codebook lies in the codebooks' array. -/
theorem tab_level_inb : ∀ i : Fin 192, ∀ a, (![i.val / 8, 0, 0] : Fin 3 → ℕ) a + S1x8x1024.size a ≤ S24x8x1024.size a := by
  decide +kernel

/-- Each group of four table rows lies in the table. -/
theorem tab_inb : ∀ i : Fin 192, ∀ a, (![4 * i.val, 0] : Fin 2 → ℕ) a + S4x128.size a ≤ S768x128.size a := by decide +kernel

/-- The `i`-th store into the table scratch: the packed words of level `i / 8`, lanes from `128 (i % 8)`. -/
def tabPiece (arg4 : Memref sig .tc .vmem S24x8x1024 .i16) (X : BufTy.Contents (Elt F) arg4.view.ty) (i : Fin 192) : IVec S4x128 32 :=
  shapeCast S4x128 (extractStridedSlice S4x128 ![0, 128 * (i.val % 8)]
    (k0_pay3 (F := F) (arg4.view.readAt (Elt F) (Rect.unit (s := S24x8x1024) ![i.val / 8, 0, 0] S1x8x1024.size (tab_level_inb i)).toLoadRect X))
    (tab_slices i)) shapeCasts_S4x128_S4x128

set_option maxHeartbeats 4000000 in
/-- The stores of the first point into the table scratch are the 192 tiles. -/
theorem tab_pieces (c : Dev nD) (arg4 : Memref sig .tc .vmem S24x8x1024 .i16) (harg4 : arg4.IsWhole) (x1 : Vec F S24x8x1024 .i16) :
    kernelRun0_A.sl.HS0_192 c arg4 harg4 x1
      = View.tilePieces (Val := Elt F) (s := S768x128) (e := .i32) (NT := 192) S4x128.size (fun i => ![4 * i.val, 0]) tab_inb
          (tabPiece arg4 (harg4.unread x1)) 192 le_rfl := rfl

/-- The table word of level `l`, block `k`, word position `w` at lane `j`: code words `2 w + 1` (high half) and `2 w` of
    code `128 k + j`. -/
def tabWord (x1 : Vec F S24x8x1024 .i16) (l : Fin 24) (k : Fin 8) (w : Fin 4) (j : Fin 128) : BitVec 32 :=
  BitVec.append (x1 (ix3 l ⟨2 * w.val + 1, by omega⟩ ⟨128 * k.val + j.val, by omega⟩) : BitVec 16)
    (x1 (ix3 l ⟨2 * w.val, by omega⟩ ⟨128 * k.val + j.val, by omega⟩) : BitVec 16)

/-- The table: row `32 l + 4 k + w` holds level `l`, block `k`, word position `w`. -/
def tabOf (x1 : Vec F S24x8x1024 .i16) : Vec F S768x128 .i32 := fun y =>
  tabWord x1 ⟨(y 0).val / 32, by have := (y 0).isLt; simp [S768x128] at this; omega⟩
    ⟨(y 0).val % 32 / 4, by omega⟩ ⟨(y 0).val % 4, by omega⟩ (y 1)

/-- A packed word holds the even codebook row in its low half and the odd one in its high half. -/
theorem k0_pay3_ix (v : Vec F S1x8x1024 .i16) (w : Fin 4) (j : Fin 1024) :
    k0_pay3 v (ix2 w j) = (v (ix3 0 ⟨2 * w.val + 1, by omega⟩ j) : BitVec 16) ++ (v (ix3 0 ⟨2 * w.val, by omega⟩ j) : BitVec 16) := by
  unfold k0_pay3
  rw [bitcast_16_32]
  have e : ∀ (q : ℕ) (hq : q < 8) hp, (bitcasts_S8x1024_w16_S4x1024_w32).srcIdx (ix2 w j) q hp = ix2 ⟨q, hq⟩ j := by
    intro q hq hp
    funext a
    apply Fin.ext
    match a with
    | ⟨0, _⟩ => rfl
    | ⟨1, _⟩ => rfl
  have er : Shape.row (s := S4x1024) (ix2 w j) = w.val := rfl
  rw [e _ (by rw [er]; omega), e _ (by rw [er]; omega)]
  pointwise []

/-- Reading one level's codebook gives the codebooks' entries at that level. -/
theorem level16_read (v : View sig .tc .vmem S24x8x1024 .i16) (f : v.ty.Contents (Elt F)) {o : Fin 3 → ℕ}
    (inb : ∀ a : Fin 3, o a + S1x8x1024.size a ≤ S24x8x1024.size a) (p : ℕ) (hp : p < 24) (ho : o = ![p, 0, 0]) (q : Fin 8) (j : Fin 1024) :
    v.readAt (Elt F) (Rect.unit (s := S24x8x1024) o S1x8x1024.size inb).toLoadRect f (ix3 0 q j) = v.read (Elt F) f (ix3 ⟨p, hp⟩ q j) := by
  subst ho
  rw [View.readAt_apply]
  congr 1
  funext a
  apply Fin.ext
  match a with
  | ⟨0, _⟩ => show p + 1 * 0 = p; omega
  | ⟨1, _⟩ => show 0 + 1 * q.val = q.val; omega
  | ⟨2, _⟩ => show 0 + 1 * j.val = j.val; omega

/-- A piece of the table at a word is the pair of codebook rows packed there. -/
theorem tabPiece_ix (arg4 : Memref sig .tc .vmem S24x8x1024 .i16) (harg4 : arg4.IsWhole) (x1 : Vec F S24x8x1024 .i16)
    (i : Fin 192) (w : Fin 4) (j : Fin 128) :
    tabPiece arg4 (harg4.unread x1) i (ix2 w j) = tabWord x1 ⟨i.val / 8, by omega⟩ ⟨i.val % 8, by omega⟩ w j := by
  unfold tabPiece
  pointwise []
  rw [k0_pay3_ix, level16_read (hp := by omega) (ho := rfl), level16_read (hp := by omega) (ho := rfl), harg4.read_unread]
  rfl

/-- The table scratch after the first point's stores reads as the table, whatever it held. -/
theorem read_tab (c : Dev nD) (arg4 : Memref sig .tc .vmem S24x8x1024 .i16) (harg4 : arg4.IsWhole) (x1 : Vec F S24x8x1024 .i16)
    (v : View sig .tc .vmem S768x128 .i32) (f : v.ty.Contents (Elt F)) :
    v.read (Elt F) (v.writes (Elt F) f (kernelRun0_A.sl.HS0_192 c arg4 harg4 x1)) = tabOf x1 := by
  funext y
  rw [tab_pieces]
  have hy : (y 0).val < 768 := (y 0).isLt
  rw [View.read_tilePieces v f S4x128.size _ _ _ 192 le_rfl y ⟨(y 0).val / 4, by omega⟩ (by dsimp only; omega)
    (ix2 ⟨(y 0).val % 4, by omega⟩ (y 1))
    (fun a => by
      match a with
      | ⟨0, _⟩ => show (y 0).val = 4 * ((y 0).val / 4) + (y 0).val % 4; omega
      | ⟨1, _⟩ => show (y 1).val = 0 + (y 1).val; omega) 0
    (fun i' hi' => by
      have hne : i'.val ≠ (y 0).val / 4 := fun h => hi' (Fin.ext h)
      show (y 0).val < 4 * i'.val ∨ 4 * i'.val + 4 ≤ (y 0).val
      omega)]
  refine (tabPiece_ix arg4 harg4 x1 _ _ _).trans ?_
  unfold tabOf
  congr 1
  · apply Fin.ext; show (y 0).val / 4 / 8 = (y 0).val / 32; omega
  · apply Fin.ext; show (y 0).val / 4 % 8 = (y 0).val % 32 / 4; omega

end Cert.KernelIdeal.Gen
-- ==== Proof.KiPlane.lean ====
/- One plane of the lookup, read at an index: the select tree over the eight gathered table rows is the table's word at
   the row and the lane the code names. -/
module

public import proofs.«01_k».proof.Proof.Gen.KernelIdeal.Loops
public import Idealize.ShloMosaic.Lib.Pointwise

@[expose] public section

set_option maxRecDepth 16384

noncomputable section

namespace Cert.KernelIdeal.Gen

open Idealize.ShloMosaic Idealize.ShloMosaic.TcCoe

variable {F : FTy → Type} [FloatOps F]

/-- The seven low bits of a word are its remainder by 128. -/
theorem toNat_and127 (w : BitVec 32) : (w &&& 127#32).toNat = w.toNat % 128 := by
  rw [BitVec.toNat_and, show (127#32 : BitVec 32).toNat = 2 ^ 7 - 1 from rfl, Nat.and_two_pow_sub_one_eq_mod]

/-- A word of seven bits is not negative. -/
theorem slt_and127 (w : BitVec 32) : IntOp.cmpi .slt (w &&& 127#32) 0#32 = 0#1 := by
  have h : ¬ (w &&& 127#32).slt 0#32 := by
    rw [BitVec.slt_iff_toInt_lt, BitVec.toInt_eq_toNat_of_lt (by rw [toNat_and127]; omega)]
    simp
  simp [IntOp.cmpi, h]

/-- A masked bit of the shifted word as the kernel tests it: bit `7 + b` of the word. -/
theorem bit_ne (w : BitVec 32) (b : ℕ) (hb : b < 3) :
    IntOp.cmpi .ne (IntOp.andi (IntOp.shrsi .vector w 7#32) (BitVec.twoPow 32 b)) 0#32
      = BitVec.ofBool (w.toNat / 128 / 2 ^ b % 2 == 1) := by
  have h7 : IntOp.shrsi .vector w 7#32 = w.sshiftRight 7 := rfl
  have hg : (w.sshiftRight 7).getLsbD b = (w.toNat / 128 / 2 ^ b % 2 == 1) := by
    rw [BitVec.getLsbD_sshiftRight, BitVec.getLsbD, Nat.testBit_eq_decide_div_mod_eq, Nat.pow_add, ← Nat.div_div_eq_div_mul,
      if_pos (by omega)]
    have : ¬ 32 ≤ b := by omega
    simp [this]
    rfl
  have ht : (BitVec.twoPow 32 b) ≠ 0#32 := by interval_cases b <;> decide
  rw [h7, ← hg]
  unfold IntOp.cmpi IntOp.andi
  rw [BitVec.and_twoPow]
  have ht' : (BitVec.twoPow 32 b != 0#32) = true := bne_iff_ne.mpr ht
  cases (w.sshiftRight 7).getLsbD b
  · simp
  · simp [ht']

/-- The column the kernel gathers at: the low bits, which are never negative, so that the negative branch is not taken. -/
theorem col_word (w : BitVec 32) :
    (Scalar.select (IntOp.cmpi .slt (IntOp.andi w 127#32) 0#32) (IntOp.addi (IntOp.andi w 127#32) 128#32)
      (IntOp.andi w 127#32)).toNat % 128 = w.toNat % 128 := by
  rw [IntOp.andi, slt_and127]
  show (w &&& 127#32).toNat % 128 = _
  rw [toNat_and127, Nat.mod_mod]

/-- The select tree over three bits of a number picks the entry of the number's remainder by 8. -/
theorem pick_word (N : ℕ) (f : Fin 8 → BitVec 32) :
    Scalar.select (BitVec.ofBool (N / 128 / 2 ^ 2 % 2 == 1))
      (Scalar.select (BitVec.ofBool (N / 128 / 2 ^ 1 % 2 == 1))
        (Scalar.select (BitVec.ofBool (N / 128 / 2 ^ 0 % 2 == 1)) (f 7) (f 6))
        (Scalar.select (BitVec.ofBool (N / 128 / 2 ^ 0 % 2 == 1)) (f 5) (f 4)))
      (Scalar.select (BitVec.ofBool (N / 128 / 2 ^ 1 % 2 == 1))
        (Scalar.select (BitVec.ofBool (N / 128 / 2 ^ 0 % 2 == 1)) (f 3) (f 2))
        (Scalar.select (BitVec.ofBool (N / 128 / 2 ^ 0 % 2 == 1)) (f 1) (f 0)))
      = f ⟨N / 128 % 8, Nat.mod_lt _ (by decide)⟩ := by
  have h0 : N / 128 / 2 ^ 0 % 2 = N / 128 % 8 % 2 := by omega
  have h1 : N / 128 / 2 ^ 1 % 2 = N / 128 % 8 / 2 % 2 := by omega
  have h2 : N / 128 / 2 ^ 2 % 2 = N / 128 % 8 / 4 % 2 := by omega
  rw [h0, h1, h2]
  have hm : N / 128 % 8 < 8 := Nat.mod_lt _ (by decide)
  have key : ∀ m (h : m < 8), Scalar.select (BitVec.ofBool (m / 4 % 2 == 1))
      (Scalar.select (BitVec.ofBool (m / 2 % 2 == 1))
        (Scalar.select (BitVec.ofBool (m % 2 == 1)) (f 7) (f 6)) (Scalar.select (BitVec.ofBool (m % 2 == 1)) (f 5) (f 4)))
      (Scalar.select (BitVec.ofBool (m / 2 % 2 == 1))
        (Scalar.select (BitVec.ofBool (m % 2 == 1)) (f 3) (f 2)) (Scalar.select (BitVec.ofBool (m % 2 == 1)) (f 1) (f 0)))
      = f ⟨m, h⟩ := by
    intro m h
    interval_cases m <;> rfl
  exact key _ hm

/-- One candidate: the row `row` spread over the eight sublanes and gathered along the lanes at the low bits `col`. -/
def lane (col : IVec S8x128 32) (row : Vec F S1x128 .i32) : IVec S8x128 32 :=
  dynamicGather 1 (broadcastTo S8x128 (shapeCast S1x128 row shapeCasts_S1x128_S1x128) broadcasts_S1x128_S8x128)
    (shapeCast S8x128 (shapeCast S8x128x1
      (select (cmpi .slt col (broadcast S8x128 0#32)) (addi col (broadcast S8x128 128#32)) col) shapeCasts_S8x128_S8x128x1)
      shapeCasts_S8x128x1_S8x128)

/-- The plane the kernel stores for one word position: the select tree over the eight candidates. -/
def plane (v106 : Vec F S1x1x1024 .i32) (rows : Fin 8 → Vec F S1x128 .i32) : IVec S8x128 32 :=
  let c := k0_pay239 v106
  let b0 := k0_pay241 v106
  let b1 := k0_pay242 v106
  let b2 := k0_pay243 v106
  shapeCast S8x128
    (select b2
      (select b1 (select b0 (lane c (rows 7)) (lane c (rows 6))) (select b0 (lane c (rows 5)) (lane c (rows 4))))
      (select b1 (select b0 (lane c (rows 3)) (lane c (rows 2))) (select b0 (lane c (rows 1)) (lane c (rows 0)))))
    shapeCasts_S8x128_S8x128

/-- Looking up one table row at a position takes the row's word at the low seven bits of the code there. -/
theorem lane_ix (v106 : Vec F S1x1x1024 .i32) (row : Vec F S1x128 .i32) (s : Fin 8) (j : Fin 128) :
    lane (k0_pay239 v106) row (ix2 s j)
      = row (ix2 0 ⟨(v106 (ix3 0 0 ⟨s.val * 128 + j.val, by omega⟩)).toNat % 128, Nat.mod_lt _ (by decide)⟩) := by
  pointwise [lane, k0_pay239, k0_pay238]
  exact congrArg row (congrArg (ix2 0) (Fin.ext (col_word _)))

/-- A level's plane of words at a position is the table row that the code's high bits select, at its low bits. -/
theorem plane_ix (v106 : Vec F S1x1x1024 .i32) (rows : Fin 8 → Vec F S1x128 .i32) (s : Fin 8) (j : Fin 128) :
    plane v106 rows (ix2 s j)
      = rows ⟨(v106 (ix3 0 0 ⟨s.val * 128 + j.val, by omega⟩)).toNat / 128 % 8, Nat.mod_lt _ (by decide)⟩
          (ix2 0 ⟨(v106 (ix3 0 0 ⟨s.val * 128 + j.val, by omega⟩)).toNat % 128, Nat.mod_lt _ (by decide)⟩) := by
  pointwise [plane, k0_pay241, k0_pay242, k0_pay243, k0_pay240, k0_pay238]
  rw [show (1#32 : BitVec 32) = BitVec.twoPow 32 0 from rfl, show (2#32 : BitVec 32) = BitVec.twoPow 32 1 from rfl,
    show (4#32 : BitVec 32) = BitVec.twoPow 32 2 from rfl, bit_ne _ 0 (by decide), bit_ne _ 1 (by decide), bit_ne _ 2 (by decide)]
  simp only [lane_ix]
  exact pick_word _ fun a => rows a _

end Cert.KernelIdeal.Gen
-- ==== Proof.KiTrips.lean ====
/- How often the kernel's four counted loops run and where their trips load and store, for each number of active levels. -/
module

public import proofs.«01_k».proof.Proof.Gen.KernelIdeal.Loops

@[expose] public section

set_option maxRecDepth 16384

noncomputable section

namespace Cert.KernelIdeal.Gen

open Idealize.ShloMosaic Idealize.ShloMosaic.TcCoe

variable {F : FTy → Type} [FloatOps F]

/-- The lookup loop runs once per active level. -/
theorem trips_t1 : ∀ n : Fin 25, (k0_t1_loop (BitVec.ofNat 32 n.val)).trips = n.val := by decide +kernel

/-- The lookup loop's remainder never runs: its step is 1. -/
theorem trips_t2 : ∀ n : Fin 25, (k0_t2_loop (BitVec.ofNat 32 n.val)).trips = 0 := by decide +kernel

/-- The clearing loop runs once per inactive level. -/
theorem trips_t3 : ∀ n : Fin 25, (k0_t3_loop (BitVec.ofNat 32 n.val)).trips = 24 - n.val := by decide +kernel

/-- The clearing loop's remainder never runs. -/
theorem trips_t4 : ∀ n : Fin 25, (k0_t4_loop (BitVec.ofNat 32 n.val)).trips = 0 := by decide +kernel

/-- The lookup trip `k` reads level `k` of the codes. -/
theorem off2_eq : ∀ n : Fin 25, ∀ k : Fin (k0_t1_loop (BitVec.ofNat 32 n.val)).trips,
    k0_off2 (BitVec.ofNat 32 n.val) k = ![0, k.val, 0] := by decide +kernel

/-- The lookup trip `k` reads table row `32 k + 4 a + b` for candidate `a` of word position `b`. -/
theorem off3_eq : ∀ n : Fin 25, ∀ k : Fin (k0_t1_loop (BitVec.ofNat 32 n.val)).trips, ∀ a : Fin 8, ∀ b : Fin 4,
    k0_off3 (BitVec.ofNat 32 n.val) k (BitVec.ofNat 32 (4 * a.val)) (BitVec.ofNat 32 b.val)
      = ![k.val * 32 + 4 * a.val + b.val, 0] := by decide +kernel

/-- The lookup trip `k` stores word position `r` at the eight rows from `8 (4 k + r)`. -/
theorem off4_eq : ∀ n : Fin 25, ∀ k : Fin (k0_t1_loop (BitVec.ofNat 32 n.val)).trips, ∀ r : Fin 4,
    k0_off4 (BitVec.ofNat 32 n.val) k (BitVec.ofNat 32 r.val) = ![k.val * 32 + 8 * r.val, 0] := by decide +kernel

/-- The clearing trip `k` stores zeros at the rows of level `n + k`. -/
theorem off8_eq : ∀ n : Fin 25, ∀ k : Fin (k0_t3_loop (BitVec.ofNat 32 n.val)).trips, ∀ r : Fin 4,
    k0_off8 (BitVec.ofNat 32 n.val) k (BitVec.ofNat 32 r.val) = ![(n.val + k.val) * 32 + 8 * r.val, 0] := by decide +kernel

end Cert.KernelIdeal.Gen
-- ==== Proof.KiLoop.lean ====
/- The word scratch after the kernel's loops: the rows of the active levels hold the looked-up table words, the rest zero. -/
module

public import proofs.«01_k».proof.Proof.KiPlane
public import proofs.«01_k».proof.Proof.KiTrips
public import Idealize.ShloMosaic.Lib.WritesUnit

@[expose] public section

set_option maxRecDepth 16384

noncomputable section

namespace Cert.KernelIdeal.Gen

open Idealize.ShloMosaic Idealize.ShloMosaic.TcCoe

variable {F : FTy → Type} [FloatOps F]

/-- The word the lookup finds for the code word `w` at word position `b` of level `l`: the table's row `32 l + 4 a + b`
    at lane `w % 128`, where `a` are the three bits of the code above its low seven. -/
def pickWord (T : Vec F S768x128 .i32) (l : Fin 24) (b : Fin 4) (w : BitVec 32) : BitVec 32 :=
  T (ix2 ⟨l.val * 32 + 4 * (w.toNat / 128 % 8) + b.val, by omega⟩ ⟨w.toNat % 128, Nat.mod_lt _ (by decide)⟩)

/-- The word scratch at row `32 l + 8 b + s`, lane `j`: for an active level the table word of the code at sublane `s` and
    lane `j`, zero for the levels past the active ones. -/
def eword (n : ℕ) (x0 : Vec F S1x24x1024 .i32) (T : Vec F S768x128 .i32) (l : Fin 24) (b : Fin 4) (s : Fin 8)
    (j : Fin 128) : BitVec 32 :=
  if l.val < n then pickWord T l b (x0 (ix3 0 l ⟨s.val * 128 + j.val, by omega⟩)) else 0#32

section Trip

variable (arg3 : Memref sig .tc .vmem S1x24x1024 .i32) (arg9 : Memref sig .tc .vmem S768x128 .i32) (v6 : BitVec 32)
  (k0_hw1 : k0_chk1 v6) (X_arg3 : BufTy.Contents (Elt F) arg3.view.ty) (X_arg9 : BufTy.Contents (Elt F) arg9.view.ty)
  (k : Fin (k0_t1_loop v6).trips)

/-- The codes of level `k`, as trip `k` of the lookup loads them. -/
def tripCodes : Vec F S1x1x1024 .i32 :=
  arg3.view.readAt (Elt F) (Rect.unit (s := S1x24x1024) (k0_off2 v6 k) S1x1x1024.size (k0_off2_inb v6 k0_hw1 k)).toLoadRect X_arg3

/-- What trip `k` stores for word position 0 is the lookup's plane over the eight table rows it loaded. -/
theorem trip_plane0 : trip_k0_t1.sl.v252 arg3 arg9 v6 k0_hw1 X_arg3 X_arg9 k
    = plane (F := F) (tripCodes arg3 v6 k0_hw1 X_arg3 k) ![arg9.view.readAt (Elt F) (Rect.unit (s := S768x128) (k0_off3 v6 k 0#32 0#32) S1x128.size (k0_off3_inb v6 k0_hw1 k 0 0)).toLoadRect X_arg9, arg9.view.readAt (Elt F) (Rect.unit (s := S768x128) (k0_off3 v6 k 4#32 0#32) S1x128.size (k0_off3_inb v6 k0_hw1 k 1 0)).toLoadRect X_arg9, arg9.view.readAt (Elt F) (Rect.unit (s := S768x128) (k0_off3 v6 k 8#32 0#32) S1x128.size (k0_off3_inb v6 k0_hw1 k 2 0)).toLoadRect X_arg9, arg9.view.readAt (Elt F) (Rect.unit (s := S768x128) (k0_off3 v6 k 12#32 0#32) S1x128.size (k0_off3_inb v6 k0_hw1 k 3 0)).toLoadRect X_arg9, arg9.view.readAt (Elt F) (Rect.unit (s := S768x128) (k0_off3 v6 k 16#32 0#32) S1x128.size (k0_off3_inb v6 k0_hw1 k 4 0)).toLoadRect X_arg9, arg9.view.readAt (Elt F) (Rect.unit (s := S768x128) (k0_off3 v6 k 20#32 0#32) S1x128.size (k0_off3_inb v6 k0_hw1 k 5 0)).toLoadRect X_arg9, arg9.view.readAt (Elt F) (Rect.unit (s := S768x128) (k0_off3 v6 k 24#32 0#32) S1x128.size (k0_off3_inb v6 k0_hw1 k 6 0)).toLoadRect X_arg9, arg9.view.readAt (Elt F) (Rect.unit (s := S768x128) (k0_off3 v6 k 28#32 0#32) S1x128.size (k0_off3_inb v6 k0_hw1 k 7 0)).toLoadRect X_arg9] := rfl

/-- What trip `k` stores for word position 1 is the lookup's plane over the eight table rows it loaded. -/
theorem trip_plane1 : trip_k0_t1.sl.v379 arg3 arg9 v6 k0_hw1 X_arg3 X_arg9 k
    = plane (F := F) (tripCodes arg3 v6 k0_hw1 X_arg3 k) ![arg9.view.readAt (Elt F) (Rect.unit (s := S768x128) (k0_off3 v6 k 0#32 1#32) S1x128.size (k0_off3_inb v6 k0_hw1 k 0 1)).toLoadRect X_arg9, arg9.view.readAt (Elt F) (Rect.unit (s := S768x128) (k0_off3 v6 k 4#32 1#32) S1x128.size (k0_off3_inb v6 k0_hw1 k 1 1)).toLoadRect X_arg9, arg9.view.readAt (Elt F) (Rect.unit (s := S768x128) (k0_off3 v6 k 8#32 1#32) S1x128.size (k0_off3_inb v6 k0_hw1 k 2 1)).toLoadRect X_arg9, arg9.view.readAt (Elt F) (Rect.unit (s := S768x128) (k0_off3 v6 k 12#32 1#32) S1x128.size (k0_off3_inb v6 k0_hw1 k 3 1)).toLoadRect X_arg9, arg9.view.readAt (Elt F) (Rect.unit (s := S768x128) (k0_off3 v6 k 16#32 1#32) S1x128.size (k0_off3_inb v6 k0_hw1 k 4 1)).toLoadRect X_arg9, arg9.view.readAt (Elt F) (Rect.unit (s := S768x128) (k0_off3 v6 k 20#32 1#32) S1x128.size (k0_off3_inb v6 k0_hw1 k 5 1)).toLoadRect X_arg9, arg9.view.readAt (Elt F) (Rect.unit (s := S768x128) (k0_off3 v6 k 24#32 1#32) S1x128.size (k0_off3_inb v6 k0_hw1 k 6 1)).toLoadRect X_arg9, arg9.view.readAt (Elt F) (Rect.unit (s := S768x128) (k0_off3 v6 k 28#32 1#32) S1x128.size (k0_off3_inb v6 k0_hw1 k 7 1)).toLoadRect X_arg9] := rfl

/-- What trip `k` stores for word position 2 is the lookup's plane over the eight table rows it loaded. -/
theorem trip_plane2 : trip_k0_t1.sl.v506 arg3 arg9 v6 k0_hw1 X_arg3 X_arg9 k
    = plane (F := F) (tripCodes arg3 v6 k0_hw1 X_arg3 k) ![arg9.view.readAt (Elt F) (Rect.unit (s := S768x128) (k0_off3 v6 k 0#32 2#32) S1x128.size (k0_off3_inb v6 k0_hw1 k 0 2)).toLoadRect X_arg9, arg9.view.readAt (Elt F) (Rect.unit (s := S768x128) (k0_off3 v6 k 4#32 2#32) S1x128.size (k0_off3_inb v6 k0_hw1 k 1 2)).toLoadRect X_arg9, arg9.view.readAt (Elt F) (Rect.unit (s := S768x128) (k0_off3 v6 k 8#32 2#32) S1x128.size (k0_off3_inb v6 k0_hw1 k 2 2)).toLoadRect X_arg9, arg9.view.readAt (Elt F) (Rect.unit (s := S768x128) (k0_off3 v6 k 12#32 2#32) S1x128.size (k0_off3_inb v6 k0_hw1 k 3 2)).toLoadRect X_arg9, arg9.view.readAt (Elt F) (Rect.unit (s := S768x128) (k0_off3 v6 k 16#32 2#32) S1x128.size (k0_off3_inb v6 k0_hw1 k 4 2)).toLoadRect X_arg9, arg9.view.readAt (Elt F) (Rect.unit (s := S768x128) (k0_off3 v6 k 20#32 2#32) S1x128.size (k0_off3_inb v6 k0_hw1 k 5 2)).toLoadRect X_arg9, arg9.view.readAt (Elt F) (Rect.unit (s := S768x128) (k0_off3 v6 k 24#32 2#32) S1x128.size (k0_off3_inb v6 k0_hw1 k 6 2)).toLoadRect X_arg9, arg9.view.readAt (Elt F) (Rect.unit (s := S768x128) (k0_off3 v6 k 28#32 2#32) S1x128.size (k0_off3_inb v6 k0_hw1 k 7 2)).toLoadRect X_arg9] := rfl

/-- What trip `k` stores for word position 3 is the lookup's plane over the eight table rows it loaded. -/
theorem trip_plane3 : trip_k0_t1.sl.v633 arg3 arg9 v6 k0_hw1 X_arg3 X_arg9 k
    = plane (F := F) (tripCodes arg3 v6 k0_hw1 X_arg3 k) ![arg9.view.readAt (Elt F) (Rect.unit (s := S768x128) (k0_off3 v6 k 0#32 3#32) S1x128.size (k0_off3_inb v6 k0_hw1 k 0 3)).toLoadRect X_arg9, arg9.view.readAt (Elt F) (Rect.unit (s := S768x128) (k0_off3 v6 k 4#32 3#32) S1x128.size (k0_off3_inb v6 k0_hw1 k 1 3)).toLoadRect X_arg9, arg9.view.readAt (Elt F) (Rect.unit (s := S768x128) (k0_off3 v6 k 8#32 3#32) S1x128.size (k0_off3_inb v6 k0_hw1 k 2 3)).toLoadRect X_arg9, arg9.view.readAt (Elt F) (Rect.unit (s := S768x128) (k0_off3 v6 k 12#32 3#32) S1x128.size (k0_off3_inb v6 k0_hw1 k 3 3)).toLoadRect X_arg9, arg9.view.readAt (Elt F) (Rect.unit (s := S768x128) (k0_off3 v6 k 16#32 3#32) S1x128.size (k0_off3_inb v6 k0_hw1 k 4 3)).toLoadRect X_arg9, arg9.view.readAt (Elt F) (Rect.unit (s := S768x128) (k0_off3 v6 k 20#32 3#32) S1x128.size (k0_off3_inb v6 k0_hw1 k 5 3)).toLoadRect X_arg9, arg9.view.readAt (Elt F) (Rect.unit (s := S768x128) (k0_off3 v6 k 24#32 3#32) S1x128.size (k0_off3_inb v6 k0_hw1 k 6 3)).toLoadRect X_arg9, arg9.view.readAt (Elt F) (Rect.unit (s := S768x128) (k0_off3 v6 k 28#32 3#32) S1x128.size (k0_off3_inb v6 k0_hw1 k 7 3)).toLoadRect X_arg9] := rfl

end Trip

section Reads

/-- Four stores of eight rows each, at the rows `32 k + 8 r`, read at row `32 l + 8 b + s`: on level `k` the store of word
    position `b`, on every other level what was there. -/
theorem read_four (v : View sig .tc .vmem S768x128 .i32) (f : v.ty.Contents (Elt F)) (k : ℕ) {o0 o1 o2 o3 : Fin 2 → ℕ}
    (i0 : ∀ a : Fin 2, o0 a + S8x128.size a ≤ S768x128.size a) (i1 : ∀ a : Fin 2, o1 a + S8x128.size a ≤ S768x128.size a)
    (i2 : ∀ a : Fin 2, o2 a + S8x128.size a ≤ S768x128.size a) (i3 : ∀ a : Fin 2, o3 a + S8x128.size a ≤ S768x128.size a)
    (w0 w1 w2 w3 : S8x128.Idx → BitVec 32)
    (h0 : o0 = ![k * 32 + 8 * 0, 0]) (h1 : o1 = ![k * 32 + 8 * 1, 0]) (h2 : o2 = ![k * 32 + 8 * 2, 0]) (h3 : o3 = ![k * 32 + 8 * 3, 0])
    (l : Fin 24) (b : Fin 4) (s : Fin 8) (j : Fin 128) :
    v.read (Elt F) (v.writes (Elt F) f [⟨Rect.unit (s := S768x128) o3 S8x128.size i3, w3⟩,
      ⟨Rect.unit (s := S768x128) o2 S8x128.size i2, w2⟩, ⟨Rect.unit (s := S768x128) o1 S8x128.size i1, w1⟩,
      ⟨Rect.unit (s := S768x128) o0 S8x128.size i0, w0⟩]) (ix2 ⟨l.val * 32 + 8 * b.val + s.val, by omega⟩ j)
      = if l.val = k then (![w0, w1, w2, w3] b) (ix2 s j)
        else v.read (Elt F) f (ix2 ⟨l.val * 32 + 8 * b.val + s.val, by omega⟩ j) := by
  have hs : S8x128.size (0 : Fin 2) = 8 := rfl
  by_cases hl : l.val = k
  · rw [if_pos hl]
    obtain ⟨b, hb⟩ := b
    interval_cases b
    · rw [View.read_writes_cons_rows_of_not_mem (W := 8) v f i3 w3 _ _ h3 hs (by left; show l.val * 32 + 8 * 0 + s.val < _; omega),
        View.read_writes_cons_rows_of_not_mem (W := 8) v f i2 w2 _ _ h2 hs (by left; show l.val * 32 + 8 * 0 + s.val < _; omega),
        View.read_writes_cons_rows_of_not_mem (W := 8) v f i1 w1 _ _ h1 hs (by left; show l.val * 32 + 8 * 0 + s.val < _; omega)]
      exact View.read_writes_cons_rows_of_mem v f i0 w0 _ _ (ix2 s j) h0 (by show l.val * 32 + 8 * 0 + s.val = k * 32 + 8 * 0 + s.val; omega) rfl
    · rw [View.read_writes_cons_rows_of_not_mem (W := 8) v f i3 w3 _ _ h3 hs (by left; show l.val * 32 + 8 * 1 + s.val < _; omega),
        View.read_writes_cons_rows_of_not_mem (W := 8) v f i2 w2 _ _ h2 hs (by left; show l.val * 32 + 8 * 1 + s.val < _; omega)]
      exact View.read_writes_cons_rows_of_mem v f i1 w1 _ _ (ix2 s j) h1 (by show l.val * 32 + 8 * 1 + s.val = k * 32 + 8 * 1 + s.val; omega) rfl
    · rw [View.read_writes_cons_rows_of_not_mem (W := 8) v f i3 w3 _ _ h3 hs (by left; show l.val * 32 + 8 * 2 + s.val < _; omega)]
      exact View.read_writes_cons_rows_of_mem v f i2 w2 _ _ (ix2 s j) h2 (by show l.val * 32 + 8 * 2 + s.val = k * 32 + 8 * 2 + s.val; omega) rfl
    · exact View.read_writes_cons_rows_of_mem v f i3 w3 _ _ (ix2 s j) h3 (by show l.val * 32 + 8 * 3 + s.val = k * 32 + 8 * 3 + s.val; omega) rfl
  · rw [if_neg hl]
    rw [View.read_writes_cons_rows_of_not_mem (W := 8) v f i3 w3 _ _ h3 hs (by show l.val * 32 + 8 * b.val + s.val < _ ∨ _ ≤ l.val * 32 + 8 * b.val + s.val; omega),
      View.read_writes_cons_rows_of_not_mem (W := 8) v f i2 w2 _ _ h2 hs (by show l.val * 32 + 8 * b.val + s.val < _ ∨ _ ≤ l.val * 32 + 8 * b.val + s.val; omega),
      View.read_writes_cons_rows_of_not_mem (W := 8) v f i1 w1 _ _ h1 hs (by show l.val * 32 + 8 * b.val + s.val < _ ∨ _ ≤ l.val * 32 + 8 * b.val + s.val; omega),
      View.read_writes_cons_rows_of_not_mem (W := 8) v f i0 w0 _ _ h0 hs (by show l.val * 32 + 8 * b.val + s.val < _ ∨ _ ≤ l.val * 32 + 8 * b.val + s.val; omega)]
    rfl

/-- A row loaded from the table scratch: the row's words. -/
theorem row_read (v : View sig .tc .vmem S768x128 .i32) (f : v.ty.Contents (Elt F)) {o : Fin 2 → ℕ}
    (inb : ∀ a : Fin 2, o a + S1x128.size a ≤ S768x128.size a) (p : ℕ) (hp : p < 768) (ho : o = ![p, 0]) (j : Fin 128) :
    v.readAt (Elt F) (Rect.unit (s := S768x128) o S1x128.size inb).toLoadRect f (ix2 0 j) = v.read (Elt F) f (ix2 ⟨p, hp⟩ j) := by
  subst ho
  rw [View.readAt_apply]
  congr 1
  funext a
  apply Fin.ext
  match a with
  | ⟨0, _⟩ => show p + 1 * 0 = p; omega
  | ⟨1, _⟩ => show 0 + 1 * j.val = j.val; omega

/-- A level's codes loaded from the code block: the level's words. -/
theorem level_read (v : View sig .tc .vmem S1x24x1024 .i32) (f : v.ty.Contents (Elt F)) {o : Fin 3 → ℕ}
    (inb : ∀ a : Fin 3, o a + S1x1x1024.size a ≤ S1x24x1024.size a) (p : ℕ) (hp : p < 24) (ho : o = ![0, p, 0]) (j : Fin 1024) :
    v.readAt (Elt F) (Rect.unit (s := S1x24x1024) o S1x1x1024.size inb).toLoadRect f (ix3 0 0 j) = v.read (Elt F) f (ix3 0 ⟨p, hp⟩ j) := by
  subst ho
  rw [View.readAt_apply]
  congr 1
  funext a
  apply Fin.ext
  match a with
  | ⟨0, _⟩ => rfl
  | ⟨1, _⟩ => show p + 1 * 0 = p; omega
  | ⟨2, _⟩ => show 0 + 1 * j.val = j.val; omega

variable (𝒱 : Variants) (c : Dev nD) (bd : Option 𝒱.V) (i : grid0.Coords) (arg2 : Memref sig .tc .smem S48 .i32) (harg2 : arg2.IsWhole) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole)

/-- The four stores of one lookup trip. -/
theorem tripL_t1_eq (v6 : BitVec 32) (k0_hw1 : k0_chk1 v6) (X_arg3 : BufTy.Contents (Elt F) arg3.view.ty)
    (X_arg9 : BufTy.Contents (Elt F) arg9.view.ty) (k : Fin (k0_t1_loop v6).trips) :
    tripL_k0_t1 (F := F) 𝒱 c bd i arg2 harg2 arg3 harg3 arg4 harg4 arg5 harg5 arg6 harg6 arg7 harg7 arg8 harg8 arg9 harg9 arg10 harg10 arg11 harg11 v6 k0_hw1 X_arg3 X_arg9 k
      = [⟨Rect.unit (s := S768x128) (k0_off4 v6 k 3#32) S8x128.size (k0_off4_inb v6 k0_hw1 k 3), trip_k0_t1.sl.v633 arg3 arg9 v6 k0_hw1 X_arg3 X_arg9 k⟩,
      ⟨Rect.unit (s := S768x128) (k0_off4 v6 k 2#32) S8x128.size (k0_off4_inb v6 k0_hw1 k 2), trip_k0_t1.sl.v506 arg3 arg9 v6 k0_hw1 X_arg3 X_arg9 k⟩,
      ⟨Rect.unit (s := S768x128) (k0_off4 v6 k 1#32) S8x128.size (k0_off4_inb v6 k0_hw1 k 1), trip_k0_t1.sl.v379 arg3 arg9 v6 k0_hw1 X_arg3 X_arg9 k⟩,
      ⟨Rect.unit (s := S768x128) (k0_off4 v6 k 0#32) S8x128.size (k0_off4_inb v6 k0_hw1 k 0), trip_k0_t1.sl.v252 arg3 arg9 v6 k0_hw1 X_arg3 X_arg9 k⟩] := by
  unfold tripL_k0_t1 trip_k0_t1
  rfl

/-- The four stores of one clearing trip. -/
theorem tripL_t3_eq (v6 : BitVec 32) (k0_hw1 : k0_chk1 v6) (k : Fin (k0_t3_loop v6).trips) :
    tripL_k0_t3 (F := F) 𝒱 c bd i arg2 harg2 arg3 harg3 arg4 harg4 arg5 harg5 arg6 harg6 arg7 harg7 arg8 harg8 arg9 harg9 arg10 harg10 arg11 harg11 v6 k0_hw1 k
      = [⟨Rect.unit (s := S768x128) (k0_off8 v6 k 3#32) S8x128.size (k0_off8_inb v6 k0_hw1 k 3), fun _ => 0#32⟩,
      ⟨Rect.unit (s := S768x128) (k0_off8 v6 k 2#32) S8x128.size (k0_off8_inb v6 k0_hw1 k 2), fun _ => 0#32⟩,
      ⟨Rect.unit (s := S768x128) (k0_off8 v6 k 1#32) S8x128.size (k0_off8_inb v6 k0_hw1 k 1), fun _ => 0#32⟩,
      ⟨Rect.unit (s := S768x128) (k0_off8 v6 k 0#32) S8x128.size (k0_off8_inb v6 k0_hw1 k 0), fun _ => 0#32⟩] := by
  unfold tripL_k0_t3 trip_k0_t3
  rfl

/-- A trip's plane for a word position, given that its candidate rows are rows `32 k + 4 a + b` of the table. -/
theorem plane_pick (T : Vec F S768x128 .i32) (x0 : Vec F S1x24x1024 .i32) (v106 : Vec F S1x1x1024 .i32)
    (rows : Fin 8 → Vec F S1x128 .i32) (l : Fin 24) (b : Fin 4) (hc : ∀ t, v106 (ix3 0 0 t) = x0 (ix3 0 l t))
    (hr : ∀ a : Fin 8, ∀ j, rows a (ix2 0 j) = T (ix2 ⟨l.val * 32 + 4 * a.val + b.val, by omega⟩ j)) (s : Fin 8) (j : Fin 128) :
    plane v106 rows (ix2 s j) = pickWord T l b (x0 (ix3 0 l ⟨s.val * 128 + j.val, by omega⟩)) := by
  rw [plane_ix, hr]
  unfold pickWord
  simp only [hc]

/-- The word scratch after `K` lookup trips: the levels below `K` hold their looked-up words, the rest is as it was. -/
theorem read_pb1 (n : Fin 25) (k0_hw1 : k0_chk1 (BitVec.ofNat 32 n.val)) (X_arg3 : BufTy.Contents (Elt F) arg3.view.ty)
    (X_arg9 : BufTy.Contents (Elt F) arg9.view.ty) (G : BufTy.Contents (Elt F) arg11.view.ty) (K : ℕ) (hK : K ≤ n.val)
    (l : Fin 24) (b : Fin 4) (s : Fin 8) (j : Fin 128) :
    arg11.view.read (Elt F) (arg11.view.writes (Elt F) G
        (pb_k0_t1 (F := F) 𝒱 c bd i arg2 harg2 arg3 harg3 arg4 harg4 arg5 harg5 arg6 harg6 arg7 harg7 arg8 harg8 arg9 harg9 arg10 harg10 arg11 harg11 (BitVec.ofNat 32 n.val) k0_hw1 X_arg3 X_arg9 K))
        (ix2 ⟨l.val * 32 + 8 * b.val + s.val, by omega⟩ j)
      = if l.val < K then pickWord (arg9.view.read (Elt F) X_arg9) l b (arg3.view.read (Elt F) X_arg3 (ix3 0 l ⟨s.val * 128 + j.val, by omega⟩))
        else arg11.view.read (Elt F) G (ix2 ⟨l.val * 32 + 8 * b.val + s.val, by omega⟩ j) := by
  induction K with
  | zero => rfl
  | succ K ih =>
    have hk : K < (k0_t1_loop (BitVec.ofNat 32 n.val)).trips := by rw [trips_t1]; omega
    have e := pb_k0_t1_succ (F := F) 𝒱 c bd i arg2 harg2 arg3 harg3 arg4 harg4 arg5 harg5 arg6 harg6 arg7 harg7 arg8 harg8 arg9 harg9 arg10 harg10 arg11 harg11 (BitVec.ofNat 32 n.val) k0_hw1 X_arg3 X_arg9 ⟨K, hk⟩
    dsimp only at e
    rw [e, View.writes_append, tripL_t1_eq]
    refine (read_four arg11.view _ K _ _ _ _ _ _ _ _ (off4_eq n ⟨K, hk⟩ 0) (off4_eq n ⟨K, hk⟩ 1) (off4_eq n ⟨K, hk⟩ 2)
      (off4_eq n ⟨K, hk⟩ 3) l b s j).trans ?_
    rw [ih (by omega)]
    by_cases hl : l.val = K
    · rw [if_pos hl, if_pos (by omega)]
      have hc : ∀ t, tripCodes arg3 (BitVec.ofNat 32 n.val) k0_hw1 X_arg3 ⟨K, hk⟩ (ix3 0 0 t)
          = arg3.view.read (Elt F) X_arg3 (ix3 0 l t) := fun t => by
        have := level_read arg3.view X_arg3 (k0_off2_inb (BitVec.ofNat 32 n.val) k0_hw1 ⟨K, hk⟩) K (by omega) (off2_eq n ⟨K, hk⟩) t
        refine this.trans ?_
        have : (⟨K, by omega⟩ : Fin 24) = l := Fin.ext hl.symm
        rw [this]
      have hr : ∀ (a : Fin 8) (b : Fin 4) (j : Fin 128), arg9.view.readAt (Elt F) (Rect.unit (s := S768x128)
          (k0_off3 (BitVec.ofNat 32 n.val) ⟨K, hk⟩ (BitVec.ofNat 32 (4 * a.val)) (BitVec.ofNat 32 b.val)) S1x128.size
          (k0_off3_inb (BitVec.ofNat 32 n.val) k0_hw1 ⟨K, hk⟩ a b)).toLoadRect X_arg9 (ix2 0 j)
          = arg9.view.read (Elt F) X_arg9 (ix2 ⟨l.val * 32 + 4 * a.val + b.val, by omega⟩ j) := fun a b j => by
        refine (row_read arg9.view X_arg9 _ (K * 32 + 4 * a.val + b.val) (by omega) (off3_eq n ⟨K, hk⟩ a b) j).trans ?_
        congr 2
        apply Fin.ext
        show K * 32 + 4 * a.val + b.val = l.val * 32 + 4 * a.val + b.val
        omega
      obtain ⟨b, hb⟩ := b
      interval_cases b
      · refine (congrFun (trip_plane0 arg3 arg9 (BitVec.ofNat 32 n.val) k0_hw1 X_arg3 X_arg9 ⟨K, hk⟩) (ix2 s j)).trans ?_
        exact plane_pick _ _ _ _ l 0 hc (fun a j => by have := hr a 0 j; obtain ⟨a, ha⟩ := a; interval_cases a <;> exact this) s j
      · refine (congrFun (trip_plane1 arg3 arg9 (BitVec.ofNat 32 n.val) k0_hw1 X_arg3 X_arg9 ⟨K, hk⟩) (ix2 s j)).trans ?_
        exact plane_pick _ _ _ _ l 1 hc (fun a j => by have := hr a 1 j; obtain ⟨a, ha⟩ := a; interval_cases a <;> exact this) s j
      · refine (congrFun (trip_plane2 arg3 arg9 (BitVec.ofNat 32 n.val) k0_hw1 X_arg3 X_arg9 ⟨K, hk⟩) (ix2 s j)).trans ?_
        exact plane_pick _ _ _ _ l 2 hc (fun a j => by have := hr a 2 j; obtain ⟨a, ha⟩ := a; interval_cases a <;> exact this) s j
      · refine (congrFun (trip_plane3 arg3 arg9 (BitVec.ofNat 32 n.val) k0_hw1 X_arg3 X_arg9 ⟨K, hk⟩) (ix2 s j)).trans ?_
        exact plane_pick _ _ _ _ l 3 hc (fun a j => by have := hr a 3 j; obtain ⟨a, ha⟩ := a; interval_cases a <;> exact this) s j
    · rw [if_neg hl]
      by_cases h2 : l.val < K
      · rw [if_pos h2, if_pos (by omega)]
      · rw [if_neg h2, if_neg (by omega)]

/-- The word scratch after `K` clearing trips: the `K` levels from `n` on are zero, the rest is as it was. -/
theorem read_pb3 (n : Fin 25) (k0_hw1 : k0_chk1 (BitVec.ofNat 32 n.val)) (G : BufTy.Contents (Elt F) arg11.view.ty)
    (K : ℕ) (hK : K ≤ 24 - n.val) (l : Fin 24) (b : Fin 4) (s : Fin 8) (j : Fin 128) :
    arg11.view.read (Elt F) (arg11.view.writes (Elt F) G (pb_k0_t3 (F := F) 𝒱 c bd i arg2 harg2 arg3 harg3 arg4 harg4 arg5 harg5 arg6 harg6 arg7 harg7 arg8 harg8 arg9 harg9 arg10 harg10 arg11 harg11 (BitVec.ofNat 32 n.val) k0_hw1 K))
        (ix2 ⟨l.val * 32 + 8 * b.val + s.val, by omega⟩ j)
      = if n.val ≤ l.val ∧ l.val < n.val + K then 0#32
        else arg11.view.read (Elt F) G (ix2 ⟨l.val * 32 + 8 * b.val + s.val, by omega⟩ j) := by
  induction K with
  | zero => rw [if_neg (by omega)]; rfl
  | succ K ih =>
    have hk : K < (k0_t3_loop (BitVec.ofNat 32 n.val)).trips := by rw [trips_t3]; omega
    have e := pb_k0_t3_succ (F := F) 𝒱 c bd i arg2 harg2 arg3 harg3 arg4 harg4 arg5 harg5 arg6 harg6 arg7 harg7 arg8 harg8 arg9 harg9 arg10 harg10 arg11 harg11 (BitVec.ofNat 32 n.val) k0_hw1 ⟨K, hk⟩
    dsimp only at e
    rw [e, View.writes_append, tripL_t3_eq]
    refine (read_four arg11.view _ (n.val + K) _ _ _ _ _ _ _ _ (off8_eq n ⟨K, hk⟩ 0) (off8_eq n ⟨K, hk⟩ 1) (off8_eq n ⟨K, hk⟩ 2)
      (off8_eq n ⟨K, hk⟩ 3) l b s j).trans ?_
    rw [ih (by omega)]
    by_cases hl : l.val = n.val + K
    · rw [if_pos hl, if_pos (by omega)]
      obtain ⟨b, hb⟩ := b
      interval_cases b <;> rfl
    · rw [if_neg hl]
      by_cases h2 : n.val ≤ l.val ∧ l.val < n.val + K
      · rw [if_pos h2, if_pos (by omega)]
      · rw [if_neg h2, if_neg (by omega)]

/-- The word scratch after the four loops: the looked-up words of the active levels, zero past them, whatever it held. -/
theorem read_loops (n : Fin 25) (k0_hw1 : k0_chk1 (BitVec.ofNat 32 n.val)) (X_arg3 : BufTy.Contents (Elt F) arg3.view.ty)
    (X_arg9 : BufTy.Contents (Elt F) arg9.view.ty) (G : BufTy.Contents (Elt F) arg11.view.ty)
    (l : Fin 24) (b : Fin 4) (s : Fin 8) (j : Fin 128) :
    arg11.view.read (Elt F) (arg11.view.writes (Elt F) (arg11.view.writes (Elt F) G
        (pb_k0_t1 (F := F) 𝒱 c bd i arg2 harg2 arg3 harg3 arg4 harg4 arg5 harg5 arg6 harg6 arg7 harg7 arg8 harg8 arg9 harg9 arg10 harg10 arg11 harg11 (BitVec.ofNat 32 n.val) k0_hw1 X_arg3 X_arg9 (k0_t1_loop (BitVec.ofNat 32 n.val)).trips))
        (pb_k0_t3 (F := F) 𝒱 c bd i arg2 harg2 arg3 harg3 arg4 harg4 arg5 harg5 arg6 harg6 arg7 harg7 arg8 harg8 arg9 harg9 arg10 harg10 arg11 harg11 (BitVec.ofNat 32 n.val) k0_hw1 (k0_t3_loop (BitVec.ofNat 32 n.val)).trips))
        (ix2 ⟨l.val * 32 + 8 * b.val + s.val, by omega⟩ j)
      = eword n.val (arg3.view.read (Elt F) X_arg3) (arg9.view.read (Elt F) X_arg9) l b s j := by
  rw [trips_t1, trips_t3, read_pb3 _ _ _ _ _ _ _ _ _ _ _ _ _ _ _ _ _ _ _ _ _ _ _ _ n k0_hw1 _ _ le_rfl, read_pb1 (hK := le_rfl)]
  unfold eword
  by_cases h : l.val < n.val
  · rw [if_neg (by omega), if_pos h, if_pos h]
  · rw [if_pos (by omega), if_neg h]

end Reads

end Cert.KernelIdeal.Gen
-- ==== Proof.KiOut.lean ====
/- The body's stores into the output block: eight groups of 128 codes, each the canonical payload over the word scratch's
   rows of the group, the weights and the bias; read back as one block. -/
module

public import proofs.«01_k».proof.Proof.KiTab
public import proofs.«01_k».proof.Proof.KiLoop
public import proofs.«01_k».proof.Proof.KiHyps

@[expose] public section

set_option maxRecDepth 65536

noncomputable section

namespace Cert.KernelIdeal.Gen

open Idealize.ShloMosaic Idealize.ShloMosaic.TcCoe

variable {F : FTy → Type} [FloatOps F]

/-- The word scratch's rows of group `g`: word position `r` of level `l` is row `4 l + r`. -/
def ewords (n : ℕ) (x0 : Vec F S1x24x1024 .i32) (T : Vec F S768x128 .i32) (g : Fin 8) : Vec F S96x128 .i32 := fun y =>
  eword n x0 T ⟨(y 0).val / 4, by have : (y 0).val < 96 := (y 0).isLt; omega⟩ ⟨(y 0).val % 4, by omega⟩ g (y 1)

/-- The weights: the decoded projection codes times their scales. -/
def wOf (x2 : Vec F S24x8x512 .fp8e4m3) (x3 : Vec F S24x512 .f32) : Vec F S192x512 .bf16 := k0_pay348 (k0_pay237 x2 x3)

/-- The output block of one grid point over the active-level count, the codes, the table, the weights and the bias. -/
def outBlk (n : ℕ) (x0 : Vec F S1x24x1024 .i32) (T : Vec F S768x128 .i32) (W : Vec F S192x512 .bf16) (x4 : Vec F S24x512 .f32) :
    Vec F S1x1024x512 .bf16 := fun y =>
  k0_pay353 (k0_pay349 (F := F) (BitVec.ofNat 32 n) x4)
    (ewords n x0 T ⟨(y 1).val / 128, by have : (y 1).val < 1024 := (y 1).isLt; omega⟩) W
    (ix3 0 ⟨(y 1).val % 128, by omega⟩ (y 2))

/-- The eight stores of a point into its output block, newest first. -/
def outPieces (bias : FVec F S1x512 .f32) (E0 E1 E2 E3 E4 E5 E6 E7 : Vec F S96x128 .i32) (W : Vec F S192x512 .bf16) :
    List (View.Piece (Elt F) S1x1024x512 .bf16) :=
  [⟨Rect.unit (s := S1x1024x512) ![0, 896, 0] ![1, 128, 512] inb_S1x1024x512_S1x128x512_0_896_0, k0_pay353 bias E7 W⟩,
   ⟨Rect.unit (s := S1x1024x512) ![0, 768, 0] ![1, 128, 512] inb_S1x1024x512_S1x128x512_0_768_0, k0_pay353 bias E6 W⟩,
   ⟨Rect.unit (s := S1x1024x512) ![0, 640, 0] ![1, 128, 512] inb_S1x1024x512_S1x128x512_0_640_0, k0_pay353 bias E5 W⟩,
   ⟨Rect.unit (s := S1x1024x512) ![0, 512, 0] ![1, 128, 512] inb_S1x1024x512_S1x128x512_0_512_0, k0_pay353 bias E4 W⟩,
   ⟨Rect.unit (s := S1x1024x512) ![0, 384, 0] ![1, 128, 512] inb_S1x1024x512_S1x128x512_0_384_0, k0_pay353 bias E3 W⟩,
   ⟨Rect.unit (s := S1x1024x512) ![0, 256, 0] ![1, 128, 512] inb_S1x1024x512_S1x128x512_0_256_0, k0_pay353 bias E2 W⟩,
   ⟨Rect.unit (s := S1x1024x512) ![0, 128, 0] ![1, 128, 512] inb_S1x1024x512_S1x128x512_0_128_0, k0_pay353 bias E1 W⟩,
   ⟨Rect.unit (s := S1x1024x512) ![0, 0, 0] ![1, 128, 512] inb_S1x1024x512_S1x128x512_0_0_0, k0_pay353 bias E0 W⟩]

/-- The result's block after the eight stores: each group of 128 rows holds its own product plus the bias. -/
theorem read_outPieces (v : View sig .tc .vmem S1x1024x512 .bf16) (f : v.ty.Contents (Elt F)) (bias : FVec F S1x512 .f32)
    (E0 E1 E2 E3 E4 E5 E6 E7 : Vec F S96x128 .i32) (W : Vec F S192x512 .bf16) (g : Fin 8) (j : Fin 128) (q : Fin 512)
    (y : S1x1024x512.Idx) (hy1 : (y 1).val = 128 * g.val + j.val) (hy2 : y 2 = q) :
    v.read (Elt F) (v.writes (Elt F) f (outPieces bias E0 E1 E2 E3 E4 E5 E6 E7 W)) y
      = k0_pay353 bias (![E0, E1, E2, E3, E4, E5, E6, E7] g) W (ix3 0 j q) := by
  have hy0 : (y 0).val = 0 := by have : (y 0).val < 1 := (y 0).isLt; omega
  subst hy2
  unfold outPieces
  obtain ⟨g, hg⟩ := g
  dsimp only at hy1
  interval_cases g
  · rw [View.read_writes_cons_unit_of_not_mem v f _ _ _ y rfl (1 : Fin 3) (by left; show (y 1).val < 896; omega),
      View.read_writes_cons_unit_of_not_mem v f _ _ _ y rfl (1 : Fin 3) (by left; show (y 1).val < 768; omega),
      View.read_writes_cons_unit_of_not_mem v f _ _ _ y rfl (1 : Fin 3) (by left; show (y 1).val < 640; omega),
      View.read_writes_cons_unit_of_not_mem v f _ _ _ y rfl (1 : Fin 3) (by left; show (y 1).val < 512; omega),
      View.read_writes_cons_unit_of_not_mem v f _ _ _ y rfl (1 : Fin 3) (by left; show (y 1).val < 384; omega),
      View.read_writes_cons_unit_of_not_mem v f _ _ _ y rfl (1 : Fin 3) (by left; show (y 1).val < 256; omega),
      View.read_writes_cons_unit_of_not_mem v f _ _ _ y rfl (1 : Fin 3) (by left; show (y 1).val < 128; omega)]
    exact View.read_writes_cons_unit_of_mem v f _ _ _ y (ix3 0 j (y 2)) rfl (fun a => by
      match a with
      | ⟨0, _⟩ => show (y 0).val = 0 + 0; omega
      | ⟨1, _⟩ => show (y 1).val = 0 + j.val; omega
      | ⟨2, _⟩ => show (y 2).val = 0 + (y 2).val; omega)
  · rw [View.read_writes_cons_unit_of_not_mem v f _ _ _ y rfl (1 : Fin 3) (by left; show (y 1).val < 896; omega),
      View.read_writes_cons_unit_of_not_mem v f _ _ _ y rfl (1 : Fin 3) (by left; show (y 1).val < 768; omega),
      View.read_writes_cons_unit_of_not_mem v f _ _ _ y rfl (1 : Fin 3) (by left; show (y 1).val < 640; omega),
      View.read_writes_cons_unit_of_not_mem v f _ _ _ y rfl (1 : Fin 3) (by left; show (y 1).val < 512; omega),
      View.read_writes_cons_unit_of_not_mem v f _ _ _ y rfl (1 : Fin 3) (by left; show (y 1).val < 384; omega),
      View.read_writes_cons_unit_of_not_mem v f _ _ _ y rfl (1 : Fin 3) (by left; show (y 1).val < 256; omega)]
    exact View.read_writes_cons_unit_of_mem v f _ _ _ y (ix3 0 j (y 2)) rfl (fun a => by
      match a with
      | ⟨0, _⟩ => show (y 0).val = 0 + 0; omega
      | ⟨1, _⟩ => show (y 1).val = 128 + j.val; omega
      | ⟨2, _⟩ => show (y 2).val = 0 + (y 2).val; omega)
  · rw [View.read_writes_cons_unit_of_not_mem v f _ _ _ y rfl (1 : Fin 3) (by left; show (y 1).val < 896; omega),
      View.read_writes_cons_unit_of_not_mem v f _ _ _ y rfl (1 : Fin 3) (by left; show (y 1).val < 768; omega),
      View.read_writes_cons_unit_of_not_mem v f _ _ _ y rfl (1 : Fin 3) (by left; show (y 1).val < 640; omega),
      View.read_writes_cons_unit_of_not_mem v f _ _ _ y rfl (1 : Fin 3) (by left; show (y 1).val < 512; omega),
      View.read_writes_cons_unit_of_not_mem v f _ _ _ y rfl (1 : Fin 3) (by left; show (y 1).val < 384; omega)]
    exact View.read_writes_cons_unit_of_mem v f _ _ _ y (ix3 0 j (y 2)) rfl (fun a => by
      match a with
      | ⟨0, _⟩ => show (y 0).val = 0 + 0; omega
      | ⟨1, _⟩ => show (y 1).val = 256 + j.val; omega
      | ⟨2, _⟩ => show (y 2).val = 0 + (y 2).val; omega)
  · rw [View.read_writes_cons_unit_of_not_mem v f _ _ _ y rfl (1 : Fin 3) (by left; show (y 1).val < 896; omega),
      View.read_writes_cons_unit_of_not_mem v f _ _ _ y rfl (1 : Fin 3) (by left; show (y 1).val < 768; omega),
      View.read_writes_cons_unit_of_not_mem v f _ _ _ y rfl (1 : Fin 3) (by left; show (y 1).val < 640; omega),
      View.read_writes_cons_unit_of_not_mem v f _ _ _ y rfl (1 : Fin 3) (by left; show (y 1).val < 512; omega)]
    exact View.read_writes_cons_unit_of_mem v f _ _ _ y (ix3 0 j (y 2)) rfl (fun a => by
      match a with
      | ⟨0, _⟩ => show (y 0).val = 0 + 0; omega
      | ⟨1, _⟩ => show (y 1).val = 384 + j.val; omega
      | ⟨2, _⟩ => show (y 2).val = 0 + (y 2).val; omega)
  · rw [View.read_writes_cons_unit_of_not_mem v f _ _ _ y rfl (1 : Fin 3) (by left; show (y 1).val < 896; omega),
      View.read_writes_cons_unit_of_not_mem v f _ _ _ y rfl (1 : Fin 3) (by left; show (y 1).val < 768; omega),
      View.read_writes_cons_unit_of_not_mem v f _ _ _ y rfl (1 : Fin 3) (by left; show (y 1).val < 640; omega)]
    exact View.read_writes_cons_unit_of_mem v f _ _ _ y (ix3 0 j (y 2)) rfl (fun a => by
      match a with
      | ⟨0, _⟩ => show (y 0).val = 0 + 0; omega
      | ⟨1, _⟩ => show (y 1).val = 512 + j.val; omega
      | ⟨2, _⟩ => show (y 2).val = 0 + (y 2).val; omega)
  · rw [View.read_writes_cons_unit_of_not_mem v f _ _ _ y rfl (1 : Fin 3) (by left; show (y 1).val < 896; omega),
      View.read_writes_cons_unit_of_not_mem v f _ _ _ y rfl (1 : Fin 3) (by left; show (y 1).val < 768; omega)]
    exact View.read_writes_cons_unit_of_mem v f _ _ _ y (ix3 0 j (y 2)) rfl (fun a => by
      match a with
      | ⟨0, _⟩ => show (y 0).val = 0 + 0; omega
      | ⟨1, _⟩ => show (y 1).val = 640 + j.val; omega
      | ⟨2, _⟩ => show (y 2).val = 0 + (y 2).val; omega)
  · rw [View.read_writes_cons_unit_of_not_mem v f _ _ _ y rfl (1 : Fin 3) (by left; show (y 1).val < 896; omega)]
    exact View.read_writes_cons_unit_of_mem v f _ _ _ y (ix3 0 j (y 2)) rfl (fun a => by
      match a with
      | ⟨0, _⟩ => show (y 0).val = 0 + 0; omega
      | ⟨1, _⟩ => show (y 1).val = 768 + j.val; omega
      | ⟨2, _⟩ => show (y 2).val = 0 + (y 2).val; omega)
  · exact View.read_writes_cons_unit_of_mem v f _ _ _ y (ix3 0 j (y 2)) rfl (fun a => by
      match a with
      | ⟨0, _⟩ => show (y 0).val = 0 + 0; omega
      | ⟨1, _⟩ => show (y 1).val = 896 + j.val; omega
      | ⟨2, _⟩ => show (y 2).val = 0 + (y 2).val; omega)

/-- The block read off the eight stores, when the groups' words are the word scratch's rows. -/
theorem read_outBlk (v : View sig .tc .vmem S1x1024x512 .bf16) (f : v.ty.Contents (Elt F)) (n : ℕ) (x0 : Vec F S1x24x1024 .i32)
    (T : Vec F S768x128 .i32) (W : Vec F S192x512 .bf16) (x4 : Vec F S24x512 .f32) :
    v.read (Elt F) (v.writes (Elt F) f (outPieces (k0_pay349 (F := F) (BitVec.ofNat 32 n) x4) (ewords n x0 T 0) (ewords n x0 T 1)
      (ewords n x0 T 2) (ewords n x0 T 3) (ewords n x0 T 4) (ewords n x0 T 5) (ewords n x0 T 6) (ewords n x0 T 7) W))
      = outBlk n x0 T W x4 := by
  funext y
  have hy : (y 1).val < 1024 := (y 1).isLt
  refine (read_outPieces v f _ _ _ _ _ _ _ _ _ W ⟨(y 1).val / 128, by omega⟩ ⟨(y 1).val % 128, by omega⟩ (y 2) y
    (by dsimp only; omega) rfl).trans ?_
  unfold outBlk
  have hg : (y 1).val / 128 < 8 := by omega
  have key : ∀ g : Fin 8, ![ewords n x0 T 0, ewords n x0 T 1, ewords n x0 T 2, ewords n x0 T 3, ewords n x0 T 4, ewords n x0 T 5,
      ewords n x0 T 6, ewords n x0 T 7] g = ewords n x0 T g := by
    intro g
    obtain ⟨g, hg⟩ := g
    interval_cases g <;> rfl
  rw [key]

section Loops

variable (𝒱 : Variants) (c : Dev nD) (bd : Option 𝒱.V) (i : grid0.Coords) (arg2 : Memref sig .tc .smem S48 .i32) (harg2 : arg2.IsWhole) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole)

/-- The word scratch's contents after the four loops. -/
def loopWrites (v6 : BitVec 32) (k0_hw1 : k0_chk1 v6) (v11 v16 : BitVec 32) (X_arg3 : BufTy.Contents (Elt F) arg3.view.ty)
    (X_arg9 : BufTy.Contents (Elt F) arg9.view.ty) (G : BufTy.Contents (Elt F) arg11.view.ty) : BufTy.Contents (Elt F) arg11.view.ty :=
  arg11.view.writes (Elt F) G
    (pb_k0_t4 (F := F) 𝒱 c bd i arg2 harg2 arg3 harg3 arg4 harg4 arg5 harg5 arg6 harg6 arg7 harg7 arg8 harg8 arg9 harg9 arg10 harg10 arg11 harg11 v6 k0_hw1 v16 (k0_t4_loop v6).trips
      ++ (pb_k0_t3 (F := F) 𝒱 c bd i arg2 harg2 arg3 harg3 arg4 harg4 arg5 harg5 arg6 harg6 arg7 harg7 arg8 harg8 arg9 harg9 arg10 harg10 arg11 harg11 v6 k0_hw1 (k0_t3_loop v6).trips
      ++ (pb_k0_t2 (F := F) 𝒱 c bd i arg2 harg2 arg3 harg3 arg4 harg4 arg5 harg5 arg6 harg6 arg7 harg7 arg8 harg8 arg9 harg9 arg10 harg10 arg11 harg11 v6 k0_hw1 v11 X_arg3 X_arg9 (k0_t2_loop v6).trips
      ++ pb_k0_t1 (F := F) 𝒱 c bd i arg2 harg2 arg3 harg3 arg4 harg4 arg5 harg5 arg6 harg6 arg7 harg7 arg8 harg8 arg9 harg9 arg10 harg10 arg11 harg11 v6 k0_hw1 X_arg3 X_arg9 (k0_t1_loop v6).trips)))

/-- The word scratch after the loops at row `32 l + 8 b + s`, lane `j`. -/
theorem read_loopWrites (n : Fin 25) (v6 : BitVec 32) (hv6 : v6 = BitVec.ofNat 32 n.val) (k0_hw1 : k0_chk1 v6) (v11 v16 : BitVec 32)
    (X_arg3 : BufTy.Contents (Elt F) arg3.view.ty)
    (X_arg9 : BufTy.Contents (Elt F) arg9.view.ty) (G : BufTy.Contents (Elt F) arg11.view.ty) (l : Fin 24) (b : Fin 4) (s : Fin 8) (j : Fin 128) :
    arg11.view.read (Elt F) (loopWrites 𝒱 c bd i arg2 harg2 arg3 harg3 arg4 harg4 arg5 harg5 arg6 harg6 arg7 harg7 arg8 harg8 arg9 harg9 arg10 harg10 arg11 harg11 v6 k0_hw1 v11 v16 X_arg3 X_arg9 G) (ix2 ⟨l.val * 32 + 8 * b.val + s.val, by omega⟩ j)
      = eword n.val (arg3.view.read (Elt F) X_arg3) (arg9.view.read (Elt F) X_arg9) l b s j := by
  subst hv6
  unfold loopWrites
  rw [trips_t2, trips_t4]
  rw [show pb_k0_t4 (F := F) 𝒱 c bd i arg2 harg2 arg3 harg3 arg4 harg4 arg5 harg5 arg6 harg6 arg7 harg7 arg8 harg8 arg9 harg9 arg10 harg10 arg11 harg11 (BitVec.ofNat 32 n.val) k0_hw1 v16 0 = [] from rfl,
    show pb_k0_t2 (F := F) 𝒱 c bd i arg2 harg2 arg3 harg3 arg4 harg4 arg5 harg5 arg6 harg6 arg7 harg7 arg8 harg8 arg9 harg9 arg10 harg10 arg11 harg11 (BitVec.ofNat 32 n.val) k0_hw1 v11 X_arg3 X_arg9 0 = [] from rfl, List.nil_append, List.nil_append,
    View.writes_append]
  exact read_loops (F := F) 𝒱 c bd i arg2 harg2 arg3 harg3 arg4 harg4 arg5 harg5 arg6 harg6 arg7 harg7 arg8 harg8 arg9 harg9 arg10 harg10 arg11 harg11 n k0_hw1 X_arg3 X_arg9 G l b s j

/-- The words read for the group of positions `o`, with stride 8 from row `o`: those of every level and word at row `o` of its plane. -/
theorem group_read (o : ℕ) (ho : o < 8) {inb} (n : Fin 25) (v6 : BitVec 32) (hv6 : v6 = BitVec.ofNat 32 n.val) (k0_hw1 : k0_chk1 v6) (v11 v16 : BitVec 32)
    (X_arg3 : BufTy.Contents (Elt F) arg3.view.ty)
    (X_arg9 : BufTy.Contents (Elt F) arg9.view.ty) (G : BufTy.Contents (Elt F) arg11.view.ty) :
    arg11.view.readAt (Elt F) { off := ![o, 0], size := S96x128.size, stride := ![8, 1], inb := inb }
        (loopWrites 𝒱 c bd i arg2 harg2 arg3 harg3 arg4 harg4 arg5 harg5 arg6 harg6 arg7 harg7 arg8 harg8 arg9 harg9 arg10 harg10 arg11 harg11 v6 k0_hw1 v11 v16 X_arg3 X_arg9 G)
      = ewords n.val (arg3.view.read (Elt F) X_arg3) (arg9.view.read (Elt F) X_arg9) ⟨o, ho⟩ := by
  funext y
  have hy : (y 0).val < 96 := (y 0).isLt
  rw [View.readAt_apply]
  refine Eq.trans ?_ (read_loopWrites (F := F) 𝒱 c bd i arg2 harg2 arg3 harg3 arg4 harg4 arg5 harg5 arg6 harg6 arg7 harg7 arg8 harg8 arg9 harg9 arg10 harg10 arg11 harg11 n v6 hv6 k0_hw1 v11 v16 X_arg3 X_arg9 G ⟨(y 0).val / 4, by omega⟩ ⟨(y 0).val % 4, by omega⟩ ⟨o, ho⟩ (y 1))
  congr 1
  funext a
  apply Fin.ext
  match a with
  | ⟨0, _⟩ => show o + 8 * (y 0).val = (y 0).val / 4 * 32 + 8 * ((y 0).val % 4) + o; omega
  | ⟨1, _⟩ => show 0 + 1 * (y 1).val = (y 1).val; omega

end Loops

/-- A whole load of a weight-shaped scratch reads it. -/
theorem whole192 (v : View sig .tc .vmem S192x512 .bf16) (f : v.ty.Contents (Elt F)) :
    v.readAt (Elt F) (Rect.unit (s := S192x512) ![0, 0] ![192, 512] inb_S192x512_S192x512_0_0).toLoadRect f = v.read (Elt F) f := by
  funext y
  rw [View.readAt_apply]
  congr 1
  funext a
  apply Fin.ext
  match a with
  | ⟨0, _⟩ => show 0 + 1 * (y 0).val = (y 0).val; omega
  | ⟨1, _⟩ => show 0 + 1 * (y 1).val = (y 1).val; omega

/-- Reading the whole weights scratch gives what it holds. -/
theorem read_whole192 (arg10 : Memref sig .tc .vmem S192x512 .bf16) (harg10 : arg10.IsWhole) (xs1 : Vec F S192x512 .bf16) :
    arg10.view.readAt (Elt F) (Rect.unit (s := S192x512) ![0, 0] ![192, 512] inb_S192x512_S192x512_0_0).toLoadRect (harg10.unread xs1) = xs1 := by
  rw [whole192, harg10.read_unread]

/-- A whole load of a bias-shaped window reads it. -/
theorem read_whole24 (arg7 : Memref sig .tc .vmem S24x512 .f32) (harg7 : arg7.IsWhole) (x4 : Vec F S24x512 .f32) :
    arg7.view.readAt (Elt F) (Rect.unit (s := S24x512) ![0, 0] S24x512.size inb_S24x512_S24x512_0_0).toLoadRect (harg7.unread x4) = x4 := by
  have h : arg7.view.readAt (Elt F) (Rect.unit (s := S24x512) ![0, 0] S24x512.size inb_S24x512_S24x512_0_0).toLoadRect (harg7.unread x4)
      = arg7.view.read (Elt F) (harg7.unread x4) := by
    funext y
    rw [View.readAt_apply]
    congr 1
    funext a
    apply Fin.ext
    match a with
    | ⟨0, _⟩ => show 0 + 1 * (y 0).val = (y 0).val; omega
    | ⟨1, _⟩ => show 0 + 1 * (y 1).val = (y 1).val; omega
  rw [h, harg7.read_unread]

/-- A whole load of the projection codes reads them. -/
theorem read_whole24x8 (arg5 : Memref sig .tc .vmem S24x8x512 .fp8e4m3) (harg5 : arg5.IsWhole) (x2 : Vec F S24x8x512 .fp8e4m3) :
    arg5.view.readAt (Elt F) (Rect.unit (s := S24x8x512) ![0, 0, 0] S24x8x512.size inb_S24x8x512_S24x8x512_0_0_0).toLoadRect (harg5.unread x2) = x2 := by
  have h : arg5.view.readAt (Elt F) (Rect.unit (s := S24x8x512) ![0, 0, 0] S24x8x512.size inb_S24x8x512_S24x8x512_0_0_0).toLoadRect (harg5.unread x2)
      = arg5.view.read (Elt F) (harg5.unread x2) := by
    funext y
    rw [View.readAt_apply]
    congr 1
    funext a
    apply Fin.ext
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  rw [h, harg5.read_unread]

/-- The weight scratch after the first point's store reads as the weights, whatever it held. -/
theorem read_w (c : Dev nD) (arg5 : Memref sig .tc .vmem S24x8x512 .fp8e4m3) (harg5 : arg5.IsWhole) (arg6 : Memref sig .tc .vmem S24x512 .f32)
    (harg6 : arg6.IsWhole) (x2 : Vec F S24x8x512 .fp8e4m3) (x3 : Vec F S24x512 .f32) (v : View sig .tc .vmem S192x512 .bf16)
    (f : v.ty.Contents (Elt F)) :
    v.read (Elt F) (v.writes (Elt F) f (kernelRun0_A.sl.HS1_1 c arg5 harg5 arg6 harg6 x2 x3)) = wOf x2 x3 := by
  have e : kernelRun0_A.sl.HS1_1 c arg5 harg5 arg6 harg6 x2 x3
      = [⟨Rect.unit (s := S192x512) ![0, 0] S192x512.size inb_S192x512_S192x512_0_0,
          k0_pay348 (k0_pay237 (arg5.view.readAt (Elt F) (Rect.unit (s := S24x8x512) ![0, 0, 0] S24x8x512.size inb_S24x8x512_S24x8x512_0_0_0).toLoadRect (harg5.unread x2))
            (arg6.view.readAt (Elt F) (Rect.unit (s := S24x512) ![0, 0] S24x512.size inb_S24x512_S24x512_0_0).toLoadRect (harg6.unread x3)))⟩] := rfl
  rw [e, read_whole24x8 arg5 harg5, read_whole24 arg6 harg6]
  funext y
  exact View.read_writes_cons_unit_of_mem v f _ _ _ y y rfl (fun a => by
    match a with
    | ⟨0, _⟩ => show (y 0).val = 0 + (y 0).val; omega
    | ⟨1, _⟩ => show (y 1).val = 0 + (y 1).val; omega)

set_option maxHeartbeats 4000000 in
/-- The stores of the run are the eight canonical ones. -/
theorem runB_pieces (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : ¬cond0_0 i) (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs0 : Vec F S768x128 .i32) (xs1 : Vec F S192x512 .bf16) (xs2 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos)))) :
    (kernelRun0_B c i arg3 harg3 arg4 harg4 arg5 harg5 arg6 harg6 arg7 harg7 arg8 harg8 arg9 harg9 arg10 harg10 arg11 harg11 hc0 x0 x1 x2 x3 x4 xt0 xs0 xs1 xs2 k0_hw1).1
      = outPieces (k0_pay349 (nWord c i xt0) (arg7.view.readAt (Elt F) (Rect.unit (s := S24x512) ![0, 0] S24x512.size inb_S24x512_S24x512_0_0).toLoadRect (harg7.unread x4)))
        (arg11.view.readAt (Elt F) { off := ![0, 0], size := S96x128.size, stride := ![8, 1], inb := inb_S768x128_S96x128_0_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_B.sl.v11 c i xt0) (kernelRun0_B.sl.v16 c i xt0) (harg3.unread x0) (harg9.unread xs0) (harg11.unread xs2)))
        (arg11.view.readAt (Elt F) { off := ![1, 0], size := S96x128.size, stride := ![8, 1], inb := inb_S768x128_S96x128_1_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_B.sl.v11 c i xt0) (kernelRun0_B.sl.v16 c i xt0) (harg3.unread x0) (harg9.unread xs0) (harg11.unread xs2)))
        (arg11.view.readAt (Elt F) { off := ![2, 0], size := S96x128.size, stride := ![8, 1], inb := inb_S768x128_S96x128_2_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_B.sl.v11 c i xt0) (kernelRun0_B.sl.v16 c i xt0) (harg3.unread x0) (harg9.unread xs0) (harg11.unread xs2)))
        (arg11.view.readAt (Elt F) { off := ![3, 0], size := S96x128.size, stride := ![8, 1], inb := inb_S768x128_S96x128_3_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_B.sl.v11 c i xt0) (kernelRun0_B.sl.v16 c i xt0) (harg3.unread x0) (harg9.unread xs0) (harg11.unread xs2)))
        (arg11.view.readAt (Elt F) { off := ![4, 0], size := S96x128.size, stride := ![8, 1], inb := inb_S768x128_S96x128_4_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_B.sl.v11 c i xt0) (kernelRun0_B.sl.v16 c i xt0) (harg3.unread x0) (harg9.unread xs0) (harg11.unread xs2)))
        (arg11.view.readAt (Elt F) { off := ![5, 0], size := S96x128.size, stride := ![8, 1], inb := inb_S768x128_S96x128_5_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_B.sl.v11 c i xt0) (kernelRun0_B.sl.v16 c i xt0) (harg3.unread x0) (harg9.unread xs0) (harg11.unread xs2)))
        (arg11.view.readAt (Elt F) { off := ![6, 0], size := S96x128.size, stride := ![8, 1], inb := inb_S768x128_S96x128_6_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_B.sl.v11 c i xt0) (kernelRun0_B.sl.v16 c i xt0) (harg3.unread x0) (harg9.unread xs0) (harg11.unread xs2)))
        (arg11.view.readAt (Elt F) { off := ![7, 0], size := S96x128.size, stride := ![8, 1], inb := inb_S768x128_S96x128_7_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_B.sl.v11 c i xt0) (kernelRun0_B.sl.v16 c i xt0) (harg3.unread x0) (harg9.unread xs0) (harg11.unread xs2)))
        (arg10.view.readAt (Elt F) (Rect.unit (s := S192x512) ![0, 0] ![192, 512] inb_S192x512_S192x512_0_0).toLoadRect (harg10.unread xs1)) := by
  unfold kernelRun0_B
  rfl

/-- The block the run leaves, over the values of its inputs. -/
theorem runB_read (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : ¬cond0_0 i) (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs0 : Vec F S768x128 .i32) (xs1 : Vec F S192x512 .bf16) (xs2 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos))))
    (n : Fin 25) (hn : nWord c i xt0 = BitVec.ofNat 32 n.val) (f : arg8.view.ty.Contents (Elt F)) :
    arg8.view.read (Elt F) (arg8.view.writes (Elt F) f (kernelRun0_B c i arg3 harg3 arg4 harg4 arg5 harg5 arg6 harg6 arg7 harg7 arg8 harg8 arg9 harg9 arg10 harg10 arg11 harg11 hc0 x0 x1 x2 x3 x4 xt0 xs0 xs1 xs2 k0_hw1).1)
      = outBlk n.val x0 xs0 xs1 x4 := by
  rw [runB_pieces]
  have key : ∀ w (hw : k0_chk1 w), w = BitVec.ofNat 32 n.val → k0_chk1 w := fun _ h _ => h
  rw [group_read (o := 0) (ho := by decide) (hv6 := hn), group_read (o := 1) (ho := by decide) (hv6 := hn), group_read (o := 2) (ho := by decide) (hv6 := hn), group_read (o := 3) (ho := by decide) (hv6 := hn), group_read (o := 4) (ho := by decide) (hv6 := hn), group_read (o := 5) (ho := by decide) (hv6 := hn), group_read (o := 6) (ho := by decide) (hv6 := hn), group_read (o := 7) (ho := by decide) (hv6 := hn), harg3.read_unread, harg9.read_unread, read_whole192 arg10 harg10]
  rw [read_whole24 arg7 harg7, hn]
  exact read_outBlk arg8.view f n.val x0 xs0 xs1 x4

set_option maxHeartbeats 4000000 in
/-- The stores of the run are the eight canonical ones. -/
theorem runA_pieces (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : cond0_0 i) (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs2 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos)))) :
    (kernelRun0_A c i arg3 harg3 arg4 harg4 arg5 harg5 arg6 harg6 arg7 harg7 arg8 harg8 arg9 harg9 arg10 harg10 arg11 harg11 hc0 x0 x1 x2 x3 x4 xt0 xs2 k0_hw1).1
      = outPieces (k0_pay349 (nWord c i xt0) (arg7.view.readAt (Elt F) (Rect.unit (s := S24x512) ![0, 0] S24x512.size inb_S24x512_S24x512_0_0).toLoadRect (harg7.unread x4)))
        (arg11.view.readAt (Elt F) { off := ![0, 0], size := S96x128.size, stride := ![8, 1], inb := inb_S768x128_S96x128_0_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_A.sl.v11 c i xt0) (kernelRun0_A.sl.v16 c i xt0) (harg3.unread x0) (arg9.view.writes (Elt F) arg9.view.junk (kernelRun0_A.sl.HS0_192 c arg4 harg4 x1)) (harg11.unread xs2)))
        (arg11.view.readAt (Elt F) { off := ![1, 0], size := S96x128.size, stride := ![8, 1], inb := inb_S768x128_S96x128_1_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_A.sl.v11 c i xt0) (kernelRun0_A.sl.v16 c i xt0) (harg3.unread x0) (arg9.view.writes (Elt F) arg9.view.junk (kernelRun0_A.sl.HS0_192 c arg4 harg4 x1)) (harg11.unread xs2)))
        (arg11.view.readAt (Elt F) { off := ![2, 0], size := S96x128.size, stride := ![8, 1], inb := inb_S768x128_S96x128_2_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_A.sl.v11 c i xt0) (kernelRun0_A.sl.v16 c i xt0) (harg3.unread x0) (arg9.view.writes (Elt F) arg9.view.junk (kernelRun0_A.sl.HS0_192 c arg4 harg4 x1)) (harg11.unread xs2)))
        (arg11.view.readAt (Elt F) { off := ![3, 0], size := S96x128.size, stride := ![8, 1], inb := inb_S768x128_S96x128_3_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_A.sl.v11 c i xt0) (kernelRun0_A.sl.v16 c i xt0) (harg3.unread x0) (arg9.view.writes (Elt F) arg9.view.junk (kernelRun0_A.sl.HS0_192 c arg4 harg4 x1)) (harg11.unread xs2)))
        (arg11.view.readAt (Elt F) { off := ![4, 0], size := S96x128.size, stride := ![8, 1], inb := inb_S768x128_S96x128_4_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_A.sl.v11 c i xt0) (kernelRun0_A.sl.v16 c i xt0) (harg3.unread x0) (arg9.view.writes (Elt F) arg9.view.junk (kernelRun0_A.sl.HS0_192 c arg4 harg4 x1)) (harg11.unread xs2)))
        (arg11.view.readAt (Elt F) { off := ![5, 0], size := S96x128.size, stride := ![8, 1], inb := inb_S768x128_S96x128_5_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_A.sl.v11 c i xt0) (kernelRun0_A.sl.v16 c i xt0) (harg3.unread x0) (arg9.view.writes (Elt F) arg9.view.junk (kernelRun0_A.sl.HS0_192 c arg4 harg4 x1)) (harg11.unread xs2)))
        (arg11.view.readAt (Elt F) { off := ![6, 0], size := S96x128.size, stride := ![8, 1], inb := inb_S768x128_S96x128_6_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_A.sl.v11 c i xt0) (kernelRun0_A.sl.v16 c i xt0) (harg3.unread x0) (arg9.view.writes (Elt F) arg9.view.junk (kernelRun0_A.sl.HS0_192 c arg4 harg4 x1)) (harg11.unread xs2)))
        (arg11.view.readAt (Elt F) { off := ![7, 0], size := S96x128.size, stride := ![8, 1], inb := inb_S768x128_S96x128_7_0_s_8_1 } (loopWrites Variants.none c none i tbM0_0 htbM0_0 arg3 harg3 arg4 harg4 arg5 harg5 arg6 harg6 arg7 harg7 arg8 harg8 arg9 harg9 arg10 harg10 arg11 harg11 (nWord c i xt0) k0_hw1 (kernelRun0_A.sl.v11 c i xt0) (kernelRun0_A.sl.v16 c i xt0) (harg3.unread x0) (arg9.view.writes (Elt F) arg9.view.junk (kernelRun0_A.sl.HS0_192 c arg4 harg4 x1)) (harg11.unread xs2)))
        (arg10.view.readAt (Elt F) (Rect.unit (s := S192x512) ![0, 0] ![192, 512] inb_S192x512_S192x512_0_0).toLoadRect (arg10.view.writes (Elt F) arg10.view.junk (kernelRun0_A.sl.HS1_1 c arg5 harg5 arg6 harg6 x2 x3))) := by
  unfold kernelRun0_A
  rfl

/-- The block the run leaves, over the values of its inputs. -/
theorem runA_read (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : cond0_0 i) (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs2 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos))))
    (n : Fin 25) (hn : nWord c i xt0 = BitVec.ofNat 32 n.val) (f : arg8.view.ty.Contents (Elt F)) :
    arg8.view.read (Elt F) (arg8.view.writes (Elt F) f (kernelRun0_A c i arg3 harg3 arg4 harg4 arg5 harg5 arg6 harg6 arg7 harg7 arg8 harg8 arg9 harg9 arg10 harg10 arg11 harg11 hc0 x0 x1 x2 x3 x4 xt0 xs2 k0_hw1).1)
      = outBlk n.val x0 (tabOf x1) (wOf x2 x3) x4 := by
  rw [runA_pieces]
  have key : ∀ w (hw : k0_chk1 w), w = BitVec.ofNat 32 n.val → k0_chk1 w := fun _ h _ => h
  rw [group_read (o := 0) (ho := by decide) (hv6 := hn), group_read (o := 1) (ho := by decide) (hv6 := hn), group_read (o := 2) (ho := by decide) (hv6 := hn), group_read (o := 3) (ho := by decide) (hv6 := hn), group_read (o := 4) (ho := by decide) (hv6 := hn), group_read (o := 5) (ho := by decide) (hv6 := hn), group_read (o := 6) (ho := by decide) (hv6 := hn), group_read (o := 7) (ho := by decide) (hv6 := hn), harg3.read_unread, read_tab, whole192, read_w]
  rw [read_whole24 arg7 harg7, hn]
  exact read_outBlk arg8.view f n.val x0 (tabOf x1) (wOf x2 x3) x4

end Cert.KernelIdeal.Gen
-- ==== Proof.KiFrame.lean ====
/- The frame and the value run of the idealized kernel: the region's invariant, the body's obligation at a generic point,
   the launch. At every point the result's block holds what the block of code words decodes to. -/
module

public import proofs.«01_k».proof.Proof.KiRunA
public import proofs.«01_k».proof.Proof.KiOut
public import proofs.«01_k».proof.Proof.KiHyps
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every word of the table the body reads is one of the 25 admitted counts. -/
abbrev Words (hO : Ok m) : Prop :=
  ∀ (c : Dev nD) (t : Fin (cfgM m hO).N), ∃ n : Fin 25, nWord (F := F) c (grid0.coords t) (tbl m 0) = BitVec.ofNat 32 n.val

/-- So the body's side conditions hold. -/
theorem Words.hyps {m : (ℓ : Loc nD τ sig) → Buf (Elt F) ℓ} {hO : Ok m} (hW : Words m hO) : Hyps m hO := by
  intro c t
  obtain ⟨n, hn⟩ := hW c t
  have := chk1_all n
  rw [← hn] at this
  exact this

/-! ## What the scratches and the result's block hold -/

/-- The first point. -/
abbrev pt0 (hO : Ok m) : Fin (cfgM m hO).N := ⟨0, lt_of_lt_of_eq (by decide : 0 < 96) (show (cfgM m hO).N = 96 from N_0).symm⟩

/-- The table of codebook words the first point leaves in its scratch. -/
def tabAt (hO : Ok m) (c : Dev nD) : Vec F S768x128 .i32 := tabOf (iblk m hO c 1 (pt0 m hO))

/-- The weights the first point leaves in theirs. -/
def wAt (hO : Ok m) (c : Dev nD) : Vec F S192x512 .bf16 := wOf (iblk m hO c 2 (pt0 m hO)) (iblk m hO c 3 (pt0 m hO))

/-- The count of active levels at a point. -/
def nAt (hO : Ok m) (c : Dev nD) (t : Fin (cfgM m hO).N) : ℕ := (nWord (F := F) c (grid0.coords t) (tbl m 0)).toNat

/-- What the body leaves in the result's block at a point. -/
def outAt (hO : Ok m) (c : Dev nD) (t : Fin (cfgM m hO).N) : Vec F S1x1024x512 .bf16 :=
  outBlk (nAt m hO c t) (iblk m hO c 0 t) (tabAt m hO c) (wAt m hO c) (iblk m hO c 4 t)

/-- The number of active levels at a point is what its count word says. -/
theorem nAt_eq (hO : Ok m) (c : Dev nD) (t : Fin (cfgM m hO).N) (n : Fin 25) (hn : nWord (F := F) c (grid0.coords t) (tbl m 0) = BitVec.ofNat 32 n.val) :
    nAt m hO c t = n.val := by
  unfold nAt
  rw [hn, BitVec.toNat_ofNat]
  have := n.isLt
  omega

/-- The table's pieces the first point stores read back as the table of words. -/
theorem runA_tab (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : cond0_0 i) (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs2 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos))))
    (f : arg9.view.ty.Contents (Elt F)) :
    arg9.view.read (Elt F) (arg9.view.writes (Elt F) f (kernelRun0_A c i arg3 harg3 arg4 harg4 arg5 harg5 arg6 harg6 arg7 harg7 arg8 harg8 arg9 harg9 arg10 harg10 arg11 harg11 hc0 x0 x1 x2 x3 x4 xt0 xs2 k0_hw1).2.1) = tabOf x1 := by
  have e : (kernelRun0_A c i arg3 harg3 arg4 harg4 arg5 harg5 arg6 harg6 arg7 harg7 arg8 harg8 arg9 harg9 arg10 harg10 arg11 harg11 hc0 x0 x1 x2 x3 x4 xt0 xs2 k0_hw1).2.1 = kernelRun0_A.sl.HS0_192 c arg4 harg4 x1 := by
    unfold kernelRun0_A; rfl
  rw [e]
  exact read_tab c arg4 harg4 x1 arg9.view f

/-- The weights' piece the first point stores reads back as the weights. -/
theorem runA_w (c : Dev nD) (i : grid0.Coords) (arg3 : Memref sig .tc .vmem S1x24x1024 .i32) (harg3 : arg3.IsWhole) (arg4 : Memref sig .tc .vmem S24x8x1024 .i16) (harg4 : arg4.IsWhole) (arg5 : Memref sig .tc .vmem S24x8x512 .fp8e4m3) (harg5 : arg5.IsWhole) (arg6 : Memref sig .tc .vmem S24x512 .f32) (harg6 : arg6.IsWhole) (arg7 : Memref sig .tc .vmem S24x512 .f32) (harg7 : arg7.IsWhole) (arg8 : Memref sig .tc .vmem S1x1024x512 .bf16) (harg8 : arg8.IsWhole) (arg9 : Memref sig .tc .vmem S768x128 .i32) (harg9 : arg9.IsWhole) (arg10 : Memref sig .tc .vmem S192x512 .bf16) (harg10 : arg10.IsWhole) (arg11 : Memref sig .tc .vmem S768x128 .i32) (harg11 : arg11.IsWhole) (hc0 : cond0_0 i) (x0 : Vec F S1x24x1024 .i32) (x1 : Vec F S24x8x1024 .i16) (x2 : Vec F S24x8x512 .fp8e4m3) (x3 : Vec F S24x512 .f32) (x4 : Vec F S24x512 .f32) (xt0 : TbBuf0 (F := F) c tbM0_0) (xs2 : Vec F S768x128 .i32) (k0_hw1 : k0_chk1 (tbM0_0.view.readAt (Elt F) (Rect.unit (s := S48) (k0_off1 i) S1.size (k0_off1_inb i)).toLoadRect xt0 (Shape.Idx.first (numel1_S1.symm ▸ Nat.one_pos))))
    (f : arg10.view.ty.Contents (Elt F)) :
    arg10.view.read (Elt F) (arg10.view.writes (Elt F) f (kernelRun0_A c i arg3 harg3 arg4 harg4 arg5 harg5 arg6 harg6 arg7 harg7 arg8 harg8 arg9 harg9 arg10 harg10 arg11 harg11 hc0 x0 x1 x2 x3 x4 xt0 xs2 k0_hw1).2.2.1) = wOf x2 x3 := by
  have e : (kernelRun0_A c i arg3 harg3 arg4 harg4 arg5 harg5 arg6 harg6 arg7 harg7 arg8 harg8 arg9 harg9 arg10 harg10 arg11 harg11 hc0 x0 x1 x2 x3 x4 xt0 xs2 k0_hw1).2.2.1 = kernelRun0_A.sl.HS1_1 c arg5 harg5 arg6 harg6 x2 x3 := by
    unfold kernelRun0_A; rfl
  rw [e]
  exact read_w c arg5 harg5 arg6 harg6 x2 x3 arg10.view f

/-- The region invariant before position `n`: before the first point the class's (every scratch at anything); afterwards
    the table scratch at the table of words, the weight scratch at the weights, the word scratch at anything, the generator
    register at some state, and the prefetched table's half. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (tabAt m hO c) ∗ owns (c : Thread nD τ) scM0_1 fullShare (wAt m hO c) ∗ (∃ d, owns (c : Thread nD τ) scM0_2 fullShare d)) ∗ (∃ r, prngReg c r)) ∗ Pipeline.ΦT pre0 (tbl m) c)

/-- Before the first point the carried state is the untouched scratch and the tables. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratches at their contents. -/
theorem PhiS_succ (hO : Ok m) (c : Dev nD) (n : ℕ) (hn : n < (cfgM m hO).N) :
    PhiS m hO c (n + 1) hn = iprop(iprop(iprop(owns (c : Thread nD τ) scM0_0 fullShare (tabAt m hO c) ∗ owns (c : Thread nD τ) scM0_1 fullShare (wAt m hO c) ∗ (∃ d, owns (c : Thread nD τ) scM0_2 fullShare d)) ∗ (∃ r, prngReg c r)) ∗ Pipeline.ΦT pre0 (tbl m) c) := rfl

/-- Before a point that is not the first: the same. -/
theorem PhiS_pos (hO : Ok m) (c : Dev nD) (n : ℕ) (h : n ≤ (cfgM m hO).N) (hz : n ≠ 0) :
    PhiS m hO c n h = iprop(iprop(iprop(owns (c : Thread nD τ) scM0_0 fullShare (tabAt m hO c) ∗ owns (c : Thread nD τ) scM0_1 fullShare (wAt m hO c) ∗ (∃ d, owns (c : Thread nD τ) scM0_2 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the result's at the decoded block; the invariant above; nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => outAt m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- After a point the buffer of window 1 holds its block still. -/
theorem after0_1 (hO : Ok m) (c : Dev nD) (t : Fin (cfgM m hO).N) : (dats m hO 0 c).after 1 t = iblk m hO c 1 t := by dsimp only [dats]; try rfl
/-- After a point the buffer of window 2 holds its block still. -/
theorem after0_2 (hO : Ok m) (c : Dev nD) (t : Fin (cfgM m hO).N) : (dats m hO 0 c).after 2 t = iblk m hO c 2 t := by dsimp only [dats]; try rfl
/-- After a point the buffer of window 3 holds its block still. -/
theorem after0_3 (hO : Ok m) (c : Dev nD) (t : Fin (cfgM m hO).N) : (dats m hO 0 c).after 3 t = iblk m hO c 3 t := by dsimp only [dats]; try rfl
/-- After a point the buffer of window 4 holds its block still. -/
theorem after0_4 (hO : Ok m) (c : Dev nD) (t : Fin (cfgM m hO).N) : (dats m hO 0 c).after 4 t = iblk m hO c 4 t := by dsimp only [dats]; try rfl

/-- After a point the buffer of window 5 holds the block that the kernel leaves. -/
theorem after0_5 (hO : Ok m) (c : Dev nD) (t : Fin (cfgM m hO).N) : (dats m hO 0 c).after 5 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before a point the buffer of window 1 holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before a point the buffer of window 2 holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Before a point the buffer of window 3 holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Before a point the buffer of window 4 holds its block. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 6400000 in
/-- The body at any point: the inputs' memrefs hold their blocks; the closed form says which case the point is in; so the
    run applies, and leaves the scratches and the result's block at their named contents. -/
theorem sound_body (hO : Ok m) (hW : Words m hO) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiT0_eq]
  have hN : t.val < 96 := lt_of_lt_of_eq t.isLt (show (cfgM m hO).N = 96 from N_0)
  obtain ⟨n, hn⟩ := hW c t
  by_cases hz : t.val = 0
  · have h0 : t.val % 96 = 0 := by omega
    have ht : t = pt0 m hO := Fin.ext hz
    rw [PhiS_castSucc m hO c t, PhiS_zero m hO c _ _ hz, PhiT0_eq, PhiA0_eq]
    iintro ⟨⟨⟨⟨HS0, HS1, ⟨%xs2, HS2⟩⟩, Hg⟩, HT0⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ ((hcond0_0 t).mpr h0) (iblk m hO c 0 t) (iblk m hO c 1 t) (iblk m hO c 2 t) (iblk m hO c 3 t) (iblk m hO c 4 t) (tbl m 0) xs2 (Hyps.c0 hW.hyps c t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HT0]; · iexact HT0
    iintro ⟨H0, H1, H2, H3, H4, ⟨%e5, H5⟩, ⟨%es0, HS0⟩, ⟨%es1, HS1⟩, HS2, HT0⟩
    isplitl [HS0 HS1 HS2 Hg HT0]
    · isplitl [HS0 HS1 HS2 Hg]
      · isplitl [HS0 HS1 HS2]
        · isplitl [HS0]
          · unfold owns; iexists _; isplitr
            swap; · iexact HS0
            ipureintro
            refine (runA_tab (F := F) (c := c) (i := grid0.coords t) (x1 := iblk m hO c 1 t) (f := es0) ..).trans ?_; rw [ht]; rfl
          isplitl [HS1]
          · unfold owns; iexists _; isplitr
            swap; · iexact HS1
            ipureintro
            refine (runA_w (F := F) (c := c) (i := grid0.coords t) (x2 := iblk m hO c 2 t) (x3 := iblk m hO c 3 t) (f := es1) ..).trans ?_; rw [ht]; rfl
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    refine (runA_read (F := F) (hn := hn) (f := e5) ..).trans ?_
    unfold outAt; rw [nAt_eq m hO c t n hn]; rw [ht]; rfl
  · have h0 : ¬ t.val % 96 = 0 := by omega
    rw [PhiS_castSucc m hO c t, PhiS_pos m hO c _ _ hz, PhiT0_eq]
    iintro ⟨⟨⟨⟨HS0, HS1, ⟨%xs2, HS2⟩⟩, Hg⟩, HT0⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (tbl m 0) (tabAt m hO c) (wAt m hO c) xs2 (Hyps.c0 hW.hyps c t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HT0]; · iexact HT0
    iintro ⟨H0, H1, H2, H3, H4, ⟨%e5, H5⟩, HS0, HS1, HS2, HT0⟩
    isplitl [HS0 HS1 HS2 Hg HT0]
    · isplitl [HS0 HS1 HS2 Hg]
      · isplitl [HS0 HS1 HS2]
        · isplitl [HS0]; · iexact HS0
          isplitl [HS1]; · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    refine (runB_read (F := F) (hn := hn) (f := e5) ..).trans ?_
    unfold outAt; rw [nAt_eq m hO c t n hn]

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hW : Words m hO) (c : Dev nD) : BodyObligation (dats (F := F) m hO 0 c) (defs₀ (F := F)) Variants.none () Set.univ := fun t => by
  rw [bigSep_W0, bigSep_W0, defs₀_row m hO]
  exact triple_restated (sound_body m hO hW c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 96 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hW : Words m hO) : θ_run defs (onTc (τ := τ) (main (F := F))) (s₀ m ρ) (fun r => (Pipeline.RDat.FramePost ((Pipeline.pin pcfgs fun _ => adm m hO) 0) (fun c => (dats m hO 0 c).toR) (V m)) r ∧ r.2.sem = fun _ => 0) :=
  Pipeline.RDat.θ_run_frameP_track (Q' := _) pcfgs (fun _ => adm m hO) (0 : Fin 1) launch0 defs₀ Variants.none (fun c => (dats m hO 0 c).toR) m ρ main
    (hbody := fun c => (body_obligation m hO hW c).toR) (hshare := fun c => (dats m hO 0 c).share_full fun _ => rfl)
    (howed := fun _ _ => rfl) (V := V m) (hmain := hmain m Variants.none) (hA := A_eq m hO) (hpf := V_pre m) (hin := hin m hO) (hout := hout m hO)

/-- At the compiled mesh, for any values, from any memory with zero counters: every weakly fair execution of @main on the
    TensorCores terminates, and every final state has every input array of the pipeline unchanged, the result's at what the
    write-backs of the named blocks make of it, and every other unscoped buffer at its region-entry contents. -/
theorem run_main (hO : Ok m) (hW : Words m hO) : θ_run defs (onTc (τ := τ) (main (F := F))) (s₀ m ρ) (Pipeline.RDat.FramePost ((Pipeline.pin pcfgs fun _ => adm m hO) 0) (fun c => (dats m hO 0 c).toR) (V m)) :=
  (θ_run defs _ _).mono (fun _ h => h.1) (run_main_quiescent m ρ hO hW)

/-- The same with the result's array named: what the write-backs of the named blocks make of it. -/
theorem run_named (hO : Ok m) (hW : Words m hO) : θ_run defs (onTc (τ := τ) (main (F := F))) (s₀ m ρ) (Pipeline.FramePost (Pipeline.pin pcfgs fun _ => adm m hO) (dats m hO) 0 (V m)) :=
  (θ_run defs _ _).mono (fun r h => Pipeline.RDat.FramePost.toDat (Pipeline.pin pcfgs fun _ => adm m hO) (dats m hO) 0 (V m) r h) (run_main m ρ hO hW)

/-- `frame` without the counters: the argument arrays end unchanged. -/
theorem unchanged (hO : Ok m) (hW : Words m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO 0 c).toR) (A_eq m hO) (run_main m ρ hO hW)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hW : Words m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hW) ((θ_run defs _ _).mono (fun _ h => h.2) (run_main_quiescent m ρ hO hW))

end Cert.KernelIdeal.Gen

end
-- ==== Proof.Spec.lean ====
/- What both programs compute, as one function of the arguments at the ideal instance: a code's embedding is 24 levels of 8
   code words each, zero past the active levels; the result is the embedding times the scaled projection, plus the biases
   of the active levels. -/
module

public import Idealize.ShloMosaic.Lib.Pointwise

@[expose] public section

noncomputable section

namespace Cert.Rvq

open Idealize.ShloMosaic

/-- The code word at position `k` of a code's embedding: that of the level's codebook row if the level is active, else zero. -/
def codeWord (n : ℕ) (cb : Fin 24 → Fin 8 → Fin 1024 → BitVec 16) (code : Fin 24 → BitVec 32) (k : Fin 192) : BitVec 16 :=
  if k.val / 8 < n then
    cb ⟨k.val / 8, by omega⟩ ⟨k.val % 8, by omega⟩ ⟨(code ⟨k.val / 8, by omega⟩).toNat % 1024, Nat.mod_lt _ (by decide)⟩
  else 0#16

/-- The result's element for the code words `w` of the embedding, a column `(pc, ps)` of the projection and the active
    levels' biases. -/
def elem (n : ℕ) (w : Fin 192 → BitVec 16) (pc : Fin 24 → Fin 8 → EReal) (ps : Fin 24 → EReal) (bias : Fin 24 → EReal) : EReal :=
  (∑ k : Fin 192, Ideal.ofBits .bf16 (w k) * (pc ⟨k.val / 8, by omega⟩ ⟨k.val % 8, by omega⟩ * ps ⟨k.val / 8, by omega⟩))
    + ∑ l : Fin 24, if l.val < n then bias l else 0

/-- The result over the arguments: the codes, the active-level counts, the codebooks' words, the projection's codes, its
    scales and the biases. -/
def result (cod : IVec ⟨3, ![48, 2048, 24]⟩ 32) (na : IVec ⟨1, ![48]⟩ 32) (cb : IVec ⟨3, ![24, 1024, 8]⟩ 16)
    (pc : FVec Ideal ⟨3, ![24, 8, 512]⟩ .fp8e4m3) (ps bias : FVec Ideal ⟨2, ![24, 512]⟩ .f32) (b : Fin 48) (s : Fin 2048) (d : Fin 512) : EReal :=
  elem (na (ix1 b)).toNat (codeWord (na (ix1 b)).toNat (fun l q i => cb (ix3 l i q)) (fun l => cod (ix3 b s l)))
    (fun l q => pc (ix3 l q d)) (fun l => ps (ix2 l d)) (fun l => bias (ix2 l d))

/-- Comparing a level with a count of levels, as words. -/
theorem slt_level : ∀ (l : Fin 24) (n : Fin 25), IntOp.cmpi .slt (BitVec.ofNat 32 l.val) (BitVec.ofNat 32 n.val) = if l.val < n.val then 1#1 else 0#1 := by
  decide +kernel

end Cert.Rvq

end
-- ==== Proof.KiVal.lean ====
/- The output block of a grid point at an index, at the ideal instance: the sum over the 192 positions of the embedding
   times the weight, plus the biases of the active levels. -/
module

public import proofs.«01_k».proof.Proof.KiOut
public import proofs.«01_k».proof.Proof.Spec
public import Idealize.ShloMosaic.Lib.Pointwise

@[expose] public section

set_option maxRecDepth 65536

noncomputable section

namespace Cert.KernelIdeal.Gen

open Idealize.ShloMosaic Idealize.ShloMosaic.TcCoe

/-- A weight: the projection's code at its level and position times the level's scale. -/
theorem wOf_ix (x2 : Vec Ideal S24x8x512 .fp8e4m3) (x3 : Vec Ideal S24x512 .f32) (k : Fin 192) (d : Fin 512) :
    wOf (F := Ideal) x2 x3 (ix2 k d) = (x2 (ix3 ⟨k.val / 8, by omega⟩ ⟨k.val % 8, by omega⟩ d) : EReal) * x3 (ix2 ⟨k.val / 8, by omega⟩ d) := by
  unfold wOf
  pointwise [k0_pay348, k0_pay237]

/-- The bias row: the sum of the active levels' biases. -/
theorem bias_ix (n : Fin 25) (x4 : Vec Ideal S24x512 .f32) (d : Fin 512) :
    k0_pay349 (F := Ideal) (BitVec.ofNat 32 n.val) x4 (ix2 0 d) = ∑ l : Fin 24, if l.val < n.val then (x4 (ix2 l d) : EReal) else 0 := by
  pointwise [k0_pay349]
  refine Finset.sum_congr rfl fun l _ => ?_
  rw [Rvq.slt_level]
  split <;> rfl

/-- The words read as halves: row `k` is the half `k % 2` of word `k / 2`. -/
theorem half_ix (E : IVec S96x128 32) (k : Fin 192) (j : Fin 128) :
    bitcast S192x128 16 E bitcasts_S96x128_w32_S192x128_w16 (ix2 k j)
      = (E (ix2 ⟨k.val / 2, by omega⟩ j)).extractLsb' (16 * (k.val % 2)) 16 := by
  rw [bitcast_32_16]
  refine congrArg (fun w : BitVec 32 => w.extractLsb' (16 * (k.val % 2)) 16) (congrArg E ?_)
  funext a
  apply Fin.ext
  match a with
  | ⟨0, _⟩ => rfl
  | ⟨1, _⟩ => rfl

/-- One group's payload at an index. -/
theorem pay353_ix (b : FVec Ideal S1x512 .f32) (E : Vec Ideal S96x128 .i32) (W : Vec Ideal S192x512 .bf16) (j : Fin 128) (d : Fin 512) :
    k0_pay353 (F := Ideal) b E W (ix3 0 j d)
      = (∑ k : Fin 192, Ideal.ofBits .bf16 ((E (ix2 ⟨k.val / 2, by omega⟩ j)).extractLsb' (16 * (k.val % 2)) 16) * W (ix2 k d) : EReal) + b (ix2 0 d) := by
  pointwise [k0_pay353]
  simp only [half_ix]

/-- Looking a code below 1024 up in the table of words gives two neighbouring code words of that code. -/
theorem pickWord_tabOf (x1 : Vec Ideal S24x8x1024 .i16) (l : Fin 24) (b : Fin 4) (w : BitVec 32) (hw : w.toNat < 1024) :
    pickWord (F := Ideal) (tabOf x1) l b w
      = BitVec.append (x1 (ix3 l ⟨2 * b.val + 1, by omega⟩ ⟨w.toNat, hw⟩) : BitVec 16) (x1 (ix3 l ⟨2 * b.val, by omega⟩ ⟨w.toNat, hw⟩) : BitVec 16) := by
  have el : (⟨(l.val * 32 + 4 * (w.toNat / 128 % 8) + b.val) / 32, by omega⟩ : Fin 24) = l := Fin.ext (by dsimp only; omega)
  have eb : (⟨(l.val * 32 + 4 * (w.toNat / 128 % 8) + b.val) % 4, by omega⟩ : Fin 4) = b := Fin.ext (by dsimp only; omega)
  have ew : ∀ h, (⟨128 * ((l.val * 32 + 4 * (w.toNat / 128 % 8) + b.val) % 32 / 4) + w.toNat % 128, h⟩ : Fin 1024) = ⟨w.toNat, hw⟩ :=
    fun h => Fin.ext (by dsimp only; omega)
  show tabWord (F := Ideal) x1 ⟨(l.val * 32 + 4 * (w.toNat / 128 % 8) + b.val) / 32, by omega⟩
    ⟨(l.val * 32 + 4 * (w.toNat / 128 % 8) + b.val) % 32 / 4, by omega⟩ ⟨(l.val * 32 + 4 * (w.toNat / 128 % 8) + b.val) % 4, by omega⟩ ⟨w.toNat % 128, by omega⟩ = _
  rw [el, eb]
  unfold tabWord
  dsimp only
  rw [ew]

/-- The half of an appended pair. -/
theorem half_append (hi lo : BitVec 16) (p : ℕ) (hp : p < 2) :
    (BitVec.append hi lo).extractLsb' (16 * p) 16 = if p = 1 then hi else lo := by
  have : p = 0 ∨ p = 1 := by omega
  rcases this with rfl | rfl
  · rw [if_neg (by decide)]
    apply BitVec.eq_of_getLsbD_eq
    intro i hi'
    show (BitVec.extractLsb' (16 * 0) 16 (hi ++ lo)).getLsbD i = _
    rw [BitVec.getLsbD_extractLsb', BitVec.getLsbD_append]
    simp [hi']
  · rw [if_pos rfl]
    apply BitVec.eq_of_getLsbD_eq
    intro i hi'
    show (BitVec.extractLsb' (16 * 1) 16 (hi ++ lo)).getLsbD i = _
    rw [BitVec.getLsbD_extractLsb', BitVec.getLsbD_append]
    simp [hi']

/-- The half words of a group are the code words. -/
theorem ewords_half (n : ℕ) (x0 : Vec Ideal S1x24x1024 .i32) (x1 : Vec Ideal S24x8x1024 .i16) (hx : ∀ y, (x0 y : BitVec 32).toNat < 1024)
    (r : Fin 1024) (k : Fin 192) :
    (ewords (F := Ideal) n x0 (tabOf x1) ⟨r.val / 128, by omega⟩ (ix2 ⟨k.val / 2, by omega⟩ ⟨r.val % 128, by omega⟩)).extractLsb' (16 * (k.val % 2)) 16
      = Rvq.codeWord n (fun l q i => x1 (ix3 l q i)) (fun l => x0 (ix3 0 l r)) k := by
  show (eword (F := Ideal) n x0 (tabOf x1) ⟨k.val / 2 / 4, by omega⟩ ⟨k.val / 2 % 4, by omega⟩ ⟨r.val / 128, by omega⟩ ⟨r.val % 128, by omega⟩).extractLsb' _ 16 = _
  have el : (⟨k.val / 2 / 4, by omega⟩ : Fin 24) = ⟨k.val / 8, by omega⟩ := Fin.ext (by dsimp only; omega)
  have er : ∀ h, (⟨r.val / 128 * 128 + r.val % 128, h⟩ : Fin 1024) = r := fun h => Fin.ext (by dsimp only; omega)
  rw [el]
  unfold eword Rvq.codeWord
  dsimp only
  rw [er]
  by_cases hn : k.val / 8 < n
  · rw [if_pos hn, if_pos hn, pickWord_tabOf _ _ _ _ (hx _), half_append _ _ _ (by omega)]
    have ec : ∀ (w : BitVec 32) (hw : w.toNat < 1024), (⟨w.toNat, hw⟩ : Fin 1024) = ⟨w.toNat % 1024, Nat.mod_lt _ (by decide)⟩ :=
      fun w hw => Fin.ext (Nat.mod_eq_of_lt hw).symm
    rw [ec _ (hx _)]
    by_cases hp : k.val % 2 = 1
    · rw [if_pos hp]
      have e8 : ∀ h, (⟨2 * (k.val / 2 % 4) + 1, h⟩ : Fin 8) = ⟨k.val % 8, by omega⟩ := fun h => Fin.ext (by dsimp only; omega)
      rw [e8]
    · rw [if_neg hp]
      have e8 : ∀ h, (⟨2 * (k.val / 2 % 4), h⟩ : Fin 8) = ⟨k.val % 8, by omega⟩ := fun h => Fin.ext (by dsimp only; omega)
      rw [e8]
  · rw [if_neg hn, if_neg hn]
    apply BitVec.eq_of_getLsbD_eq
    intro i hi
    simp [BitVec.getLsbD_extractLsb']

/-- The output block at an index. -/
theorem outBlk_ix (n : Fin 25) (x0 : Vec Ideal S1x24x1024 .i32) (x1 : Vec Ideal S24x8x1024 .i16) (x2 : Vec Ideal S24x8x512 .fp8e4m3)
    (x3 : Vec Ideal S24x512 .f32) (x4 : Vec Ideal S24x512 .f32) (hx : ∀ y, (x0 y : BitVec 32).toNat < 1024) (r : Fin 1024) (d : Fin 512) :
    outBlk (F := Ideal) n.val x0 (tabOf x1) (wOf x2 x3) x4 (ix3 0 r d)
      = Rvq.elem n.val (Rvq.codeWord n.val (fun l q i => x1 (ix3 l q i)) (fun l => x0 (ix3 0 l r))) (fun l q => x2 (ix3 l q d))
          (fun l => x3 (ix2 l d)) (fun l => x4 (ix2 l d)) := by
  refine (pay353_ix _ _ _ _ _).trans ?_
  refine congrArg₂ (· + ·) (Finset.sum_congr rfl fun k _ => congrArg₂ (· * ·) (congrArg _ ?_) (wOf_ix x2 x3 k d)) (bias_ix n x4 d)
  exact ewords_half n.val x0 x1 hx r k

end Cert.KernelIdeal.Gen

end
-- ==== Proof.KiArr.lean ====
/- The idealized kernel's result array: at every index the shared function of the arguments. -/
module

public import proofs.«01_k».proof.Proof.KiFrame
public import proofs.«01_k».proof.Proof.KiVal
public import Idealize.ShloMosaic.Lib.Pipeline.Value
public import Idealize.ShloMosaic.Lib.StableHlo.ReadAt
public import Idealize.ShloMosaic.Lib.Pipeline.ValueKit.Geometry

@[expose] public section

set_option maxRecDepth 65536

noncomputable section

namespace Cert.KernelIdeal.Gen

open Idealize.ShloMosaic Idealize.ShloMosaic.TcCoe Idealize.SL.Sem
open Idealize.ShloMosaic.Pipeline (Dat)

/-- Where each grid point reads and writes: point `t` is batch `t / 2`, half `t % 2`. -/
theorem point_index : ∀ t : Fin grid0.N,
    (cc0_transform_0 (grid0.coords t) = ![t.val / 2, 0, t.val % 2] ∧ cc0_transform_5 (grid0.coords t) = ![t.val / 2, t.val % 2, 0])
      ∧ k0_off1 (grid0.coords t) = ![t.val / 2] := by
  decide +kernel

/-- The word read off a table at a point is the batch's. -/
theorem nWord_ix (c : Dev nD) (t : Fin grid0.N) (xt0 : TbBuf0 (F := Ideal) c tbM0_0) (b : Fin 48) (hb : b.val = t.val / 2) :
    nWord (F := Ideal) c (grid0.coords t) xt0 = xt0 (ix1 b) := by
  unfold nWord
  rw [View.readAt_apply]
  refine congrArg xt0 ?_
  funext a
  apply Fin.ext
  match a with
  | ⟨0, _⟩ =>
    show k0_off1 (grid0.coords t) 0 + 1 * 0 = b.val
    rw [(point_index t).2, hb]
    rfl

variable (m : (ℓ : Loc nD τ sig) → Buf (Elt Ideal) ℓ)

/-- The codes' array holds the codes transposed. -/
theorem V_codes (c : Dev nD) (b : Fin 48) (l : Fin 24) (s : Fin 2048) :
    V m c main_v0 (ix3 b l s) = m ((c : Thread nD τ).loc main_arg0) (ix3 b s l) := by
  unfold V
  after_reads_at

/-- The codebooks' array holds the codebooks transposed. -/
theorem V_books (c : Dev nD) (l : Fin 24) (q : Fin 8) (i : Fin 1024) :
    V m c main_v1 (ix3 l q i) = m ((c : Thread nD τ).loc main_arg2) (ix3 l i q) := by
  unfold V
  after_reads_at

/-- A point's block of codes, at an index. -/
theorem iblk0_ix (hO : Ok m) (c : Dev nD) (t : Fin (cfgM m hO).N) (b : Fin 48) (hb : b.val = t.val / 2) (l : Fin 24) (r : Fin 1024)
    (s : Fin 2048) (hs : s.val = 1024 * (t.val % 2) + r.val) :
    iblk m hO c 0 t (ix3 0 l r) = m ((c : Thread nD τ).loc main_arg0) (ix3 b s l) := by
  refine Eq.trans ?_ (V_codes m c b l s)
  show V m c main_v0 ((((cfgM m hO).win 0).blk t).view.emb (ix3 0 l r)) = V m c main_v0 (ix3 b l s)
  refine congrArg (V m c main_v0) ?_
  have h := (point_index t).1.1
  funext a
  apply Fin.ext
  match a with
  | ⟨0, _⟩ =>
    show cc0_transform_0 (grid0.coords t) 0 * 1 + 0 = b.val
    rw [h, hb]; show t.val / 2 * 1 + 0 = t.val / 2; omega
  | ⟨1, _⟩ =>
    show cc0_transform_0 (grid0.coords t) 1 * 24 + 1 * l.val = l.val
    rw [h]; show 0 * 24 + 1 * l.val = l.val; omega
  | ⟨2, _⟩ =>
    show cc0_transform_0 (grid0.coords t) 2 * 1024 + 1 * r.val = s.val
    rw [h, hs]; show t.val % 2 * 1024 + 1 * r.val = 1024 * (t.val % 2) + r.val; omega

/-- A point's block of codebooks is their whole array. -/
theorem iblk1_ix (hO : Ok m) (c : Dev nD) (t : Fin (cfgM m hO).N) (l : Fin 24) (q : Fin 8) (i : Fin 1024) :
    iblk m hO c 1 t (ix3 l q i) = m ((c : Thread nD τ).loc main_arg2) (ix3 l i q) := by
  refine Eq.trans ?_ (V_books m c l q i)
  show V m c main_v1 ((((cfgM m hO).win 1).blk t).view.emb (ix3 l q i)) = V m c main_v1 (ix3 l q i)
  refine congrArg (V m c main_v1) ?_
  funext a
  apply Fin.ext
  match a with
  | ⟨0, _⟩ => show 0 * 24 + 1 * l.val = l.val; omega
  | ⟨1, _⟩ => show 0 * 8 + 1 * q.val = q.val; omega
  | ⟨2, _⟩ => show 0 * 1024 + 1 * i.val = i.val; omega

/-- A point's block of the projection's codes is their whole array. -/
theorem iblk2_ix (hO : Ok m) (c : Dev nD) (t : Fin (cfgM m hO).N) (l : Fin 24) (q : Fin 8) (d : Fin 512) :
    iblk m hO c 2 t (ix3 l q d) = m ((c : Thread nD τ).loc main_arg3) (ix3 l q d) := by
  refine Eq.trans ?_ (congrFun (V_main_arg3 m c) (ix3 l q d))
  show V m c main_arg3 ((((cfgM m hO).win 2).blk t).view.emb (ix3 l q d)) = V m c main_arg3 (ix3 l q d)
  refine congrArg (V m c main_arg3) ?_
  funext a
  apply Fin.ext
  match a with
  | ⟨0, _⟩ => show 0 * 24 + 1 * l.val = l.val; omega
  | ⟨1, _⟩ => show 0 * 8 + 1 * q.val = q.val; omega
  | ⟨2, _⟩ => show 0 * 512 + 1 * d.val = d.val; omega

/-- A point's block of the projection's scales is their whole array. -/
theorem iblk3_ix (hO : Ok m) (c : Dev nD) (t : Fin (cfgM m hO).N) (l : Fin 24) (d : Fin 512) :
    iblk m hO c 3 t (ix2 l d) = m ((c : Thread nD τ).loc main_arg4) (ix2 l d) := by
  refine Eq.trans ?_ (congrFun (V_main_arg4 m c) (ix2 l d))
  show V m c main_arg4 ((((cfgM m hO).win 3).blk t).view.emb (ix2 l d)) = V m c main_arg4 (ix2 l d)
  refine congrArg (V m c main_arg4) ?_
  funext a
  apply Fin.ext
  match a with
  | ⟨0, _⟩ => show 0 * 24 + 1 * l.val = l.val; omega
  | ⟨1, _⟩ => show 0 * 512 + 1 * d.val = d.val; omega

/-- A point's block of the biases is their whole array. -/
theorem iblk4_ix (hO : Ok m) (c : Dev nD) (t : Fin (cfgM m hO).N) (l : Fin 24) (d : Fin 512) :
    iblk m hO c 4 t (ix2 l d) = m ((c : Thread nD τ).loc main_arg5) (ix2 l d) := by
  refine Eq.trans ?_ (congrFun (V_main_arg5 m c) (ix2 l d))
  show V m c main_arg5 ((((cfgM m hO).win 4).blk t).view.emb (ix2 l d)) = V m c main_arg5 (ix2 l d)
  refine congrArg (V m c main_arg5) ?_
  funext a
  apply Fin.ext
  match a with
  | ⟨0, _⟩ => show 0 * 24 + 1 * l.val = l.val; omega
  | ⟨1, _⟩ => show 0 * 512 + 1 * d.val = d.val; omega

/-- The result's array as one function of the arguments. -/
def resultArr (c : Dev nD) : S48x2048x512.Idx → EReal := fun j =>
  Rvq.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (j 0) (j 1) (j 2)

/-- A word in [0, 1024), read unsigned. -/
theorem word_lt (w : BitVec 32) (h0 : 0 ≤ w.toInt) (h1 : w.toInt < 1024) : w.toNat < 1024 := by
  simp only [BitVec.toInt] at h0 h1
  split at h1 <;> omega

/-- The body's block over blocks of the arguments is the shared function of the arguments. -/
theorem outBlk_result (n : Fin 25) (x0 : Vec Ideal S1x24x1024 .i32) (x1 : Vec Ideal S24x8x1024 .i16) (x2 : Vec Ideal S24x8x512 .fp8e4m3)
    (x3 x4 : Vec Ideal S24x512 .f32) (cod : IVec ⟨3, ![48, 2048, 24]⟩ 32) (na : IVec ⟨1, ![48]⟩ 32) (cb : IVec ⟨3, ![24, 1024, 8]⟩ 16)
    (pc : FVec Ideal ⟨3, ![24, 8, 512]⟩ .fp8e4m3) (ps bias : FVec Ideal ⟨2, ![24, 512]⟩ .f32) (b : Fin 48) (s : Fin 2048) (r : Fin 1024) (d : Fin 512)
    (hx : ∀ y, (x0 y).toNat < 1024) (hn : (na (ix1 b)).toNat = n.val) (h0 : ∀ l, x0 (ix3 0 l r) = cod (ix3 b s l))
    (h1 : ∀ l q i, x1 (ix3 l q i) = cb (ix3 l i q)) (h2 : ∀ l q, x2 (ix3 l q d) = pc (ix3 l q d)) (h3 : ∀ l, x3 (ix2 l d) = ps (ix2 l d))
    (h4 : ∀ l, x4 (ix2 l d) = bias (ix2 l d)) :
    outBlk (F := Ideal) n.val x0 (tabOf x1) (wOf x2 x3) x4 (ix3 0 r d) = Rvq.result cod na cb pc ps bias b s d := by
  refine (outBlk_ix n x0 x1 x2 x3 x4 hx r d).trans ?_
  unfold Rvq.result
  simp only [hn, h0, h1, h2, h3, h4]

/-- The codes' array holds words below 1024. -/
theorem V_code_lt (h : Cert.Pre_KernelIdeal m) (c : Dev nD) (j : S48x24x2048.Idx) : (V m c main_v0 j).toNat < 1024 := by
  obtain rfl : c = 0 := Subsingleton.elim _ _
  have e : V m 0 main_v0 j = m (((0 : Dev nD) : Thread nD τ).loc main_arg0) (ix3 (j 0) (j 2) (j 1)) :=
    (congrArg (V m 0 main_v0) (eq_ix3 j)).trans (V_codes m 0 (j 0) (j 1) (j 2))
  have hb := (PreWords.bounds _ _ _ _ _ _ (h 0)).1 (ix3 (j 0) (j 2) (j 1))
  exact Eq.trans_lt (congrArg BitVec.toNat e) (word_lt _ hb.1 hb.2)

/-- What a point leaves in its block of the result, at an index. -/
theorem outAt_ix (h : Cert.Pre_KernelIdeal m) (hO : Ok m) (c : Dev nD) (t : Fin (cfgM m hO).N) (b : Fin 48) (hb : b.val = t.val / 2) (r : Fin 1024)
    (s : Fin 2048) (hs : s.val = 1024 * (t.val % 2) + r.val) (d : Fin 512) :
    outAt m hO c t (ix3 0 r d) = resultArr m c (ix3 b s d) := by
  obtain ⟨n, hn⟩ := word_of_pre m h c (grid0.coords t)
  have hw : m ((c : Thread nD τ).loc main_arg1) (ix1 b) = BitVec.ofNat 32 n.val := by
    refine Eq.trans ?_ hn
    refine Eq.trans ?_ (nWord_ix c t (tbl m 0) b hb).symm
    obtain rfl : c = 0 := Subsingleton.elim _ _
    exact (congrFun (tbl_eq m) (ix1 b)).symm
  have hnat : (m ((c : Thread nD τ).loc main_arg1) (ix1 b)).toNat = n.val := by
    rw [hw, BitVec.toNat_ofNat]
    have := n.isLt
    omega
  have hcod : ∀ y, (iblk m hO c 0 t y).toNat < 1024 := fun y => V_code_lt m h c _
  unfold outAt
  rw [nAt_eq m hO c t n hn]
  exact outBlk_result n (iblk m hO c 0 t) (iblk m hO c 1 (pt0 m hO)) (iblk m hO c 2 (pt0 m hO)) (iblk m hO c 3 (pt0 m hO)) (iblk m hO c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b s r d hcod hnat
    (fun l => iblk0_ix m hO c t b hb l r s hs) (fun l q i => iblk1_ix m hO c _ l q i) (fun l q => iblk2_ix m hO c _ l q d)
    (fun l => iblk3_ix m hO c _ l d) (fun l => iblk4_ix m hO c _ l d)

/-- Where a point's block of the result lies in its array. -/
theorem emb5 (hO : Ok m) (t : Fin (cfgM m hO).N) (b : Fin 48) (hb : b.val = t.val / 2) (r : Fin 1024)
    (s : Fin 2048) (hs : s.val = 1024 * (t.val % 2) + r.val) (d : Fin 512) :
    (((cfgM m hO).win 5).blk t).view.emb (ix3 0 r d) = ix3 b s d := by
  have h := (point_index t).1.2
  funext a
  apply Fin.ext
  match a with
  | ⟨0, _⟩ =>
    show cc0_transform_5 (grid0.coords t) 0 * 1 + 0 = b.val
    rw [h, hb]; show t.val / 2 * 1 + 0 = t.val / 2; omega
  | ⟨1, _⟩ =>
    show cc0_transform_5 (grid0.coords t) 1 * 1024 + 1 * r.val = s.val
    rw [h, hs]; show t.val % 2 * 1024 + 1 * r.val = 1024 * (t.val % 2) + r.val; omega
  | ⟨2, _⟩ =>
    show cc0_transform_5 (grid0.coords t) 2 * 512 + 1 * d.val = d.val
    rw [h]; show 0 * 512 + 1 * d.val = d.val; omega

/-- The point and the row that hold a position of the result. -/
theorem point_of (b : Fin 48) (s : Fin 2048) : ∃ (t : Fin grid0.N) (r : Fin 1024), b.val = t.val / 2 ∧ s.val = 1024 * (t.val % 2) + r.val := by
  have hN : grid0.N = 96 := by decide +kernel
  have hb := b.isLt
  have hs := s.isLt
  exact ⟨⟨2 * b.val + s.val / 1024, by omega⟩, ⟨s.val % 1024, by omega⟩, by show _ = (2 * b.val + s.val / 1024) / 2; omega,
    by show _ = 1024 * ((2 * b.val + s.val / 1024) % 2) + s.val % 1024; omega⟩

/-- A row of a point's block is a position of the result. -/
theorem pos_of (t : Fin grid0.N) (r : Fin 1024) : ∃ (b : Fin 48) (s : Fin 2048), b.val = t.val / 2 ∧ s.val = 1024 * (t.val % 2) + r.val := by
  have hN : grid0.N = 96 := by decide +kernel
  have ht := t.isLt
  have hr := r.isLt
  exact ⟨⟨t.val / 2, by omega⟩, ⟨1024 * (t.val % 2) + r.val, by omega⟩, rfl, rfl⟩

/-- What a point leaves in its block is that function of the arguments at the block's position. -/
theorem block5 (h : Cert.Pre_KernelIdeal m) (hO : Ok m) (c : Dev nD) (t : Fin (cfgM m hO).N) (y : S1x1024x512.Idx) :
    outAt m hO c t y = resultArr m c ((((cfgM m hO).win 5).blk t).view.emb y) := by
  obtain ⟨b, s, hb, hs⟩ := pos_of t (y 1)
  have ey : y = ix3 0 (y 1) (y 2) := by
    refine (eq_ix3 (n0 := 1) (n1 := 1024) (n2 := 512) y).trans ?_
    have h0 : y 0 = (0 : Fin 1) := Subsingleton.elim (α := Fin 1) _ _
    rw [h0]
    rfl
  have e := emb5 m hO t b hb (y 1) s hs (y 2)
  have o := outAt_ix m h hO c t b hb (y 1) s hs (y 2)
  exact (congrArg (outAt m hO c t) ey).trans
    (o.trans (congrArg (resultArr m c) (((congrArg (((cfgM m hO).win 5).blk t).view.emb ey).trans e).symm)))

/-- Every position of the result is in some point's block. -/
theorem cover5 (hO : Ok m) (i : S48x2048x512.Idx) :
    ∃ t : Fin (cfgM m hO).N, ((cfgM m hO).win 5).flush t = true ∧ i ∈ (((cfgM m hO).win 5).blk t).view.set := by
  obtain ⟨t, r, hb, hs⟩ := point_of (i 0) (i 1)
  refine ⟨t, flush0_5 (adm m hO) t, ?_⟩
  have e := (emb5 m hO t (i 0) hb r (i 1) hs (i 2)).trans (eq_ix3 i).symm
  have hm := View.emb_mem_set (((cfgM m hO).win 5).blk t).view (ix3 0 r (i 2))
  exact e ▸ hm

/-- After the run the result's array is that function of the arguments. -/
theorem final5 (h : Cert.Pre_KernelIdeal m) (hO : Ok m) (c : Dev nD) :
    (dats m hO 0 c).arrAt 5 (cfgM m hO).N = resultArr m c := by
  refine (dats m hO 0 c).arrAt_eq_of_emb 5 (resultArr m c) (fun t _ y => ?_) (cover5 m hO)
  rw [after0_5]
  exact block5 m h hO c t y

/-- The idealized kernel's run: the result is that function of the arguments, which are unchanged. -/
theorem run_value (ρ : Dev nD → PrngReg) (h : Cert.Pre_KernelIdeal m) :
    θ_run defs (onTc (τ := τ) (main (F := Ideal))) ⟨m, fun _ => 0, ρ⟩ (fun r => ∀ c : Dev nD,
      r.2.mem ((c.tc : Thread nD τ).loc main_v2) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have hO := ok_of_pre m
  have hW : Words m hO := fun c t => word_of_pre m h c _
  exact (θ_run defs _ _).mono (fun r hr c => ⟨((hr.1 c).1 5).trans (final5 m h hO c), hr.2 c⟩)
    (θ_run_and (run_named m ρ hO hW) (unchanged m ρ hO hW))

end Cert.KernelIdeal.Gen

end
-- ==== Proof.RiVal.lean ====
/- The idealized reference's result array: at every index the shared function of the arguments. -/
module

public import proofs.«01_k».proof.Proof.Gen.ReferenceIdeal.Value
public import proofs.«01_k».proof.Proof.PreWords
public import proofs.«01_k».proof.Proof.Spec
public import Idealize.ShloMosaic.Lib.StableHlo.ReadAt
public import Idealize.ShloMosaic.Lib.Pipeline.ValueKit.Geometry
public import Idealize.ShloMosaic.Lib.Pipeline.ValueKit.Acc

@[expose] public section

set_option maxRecDepth 65536

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

/-- The weights the reference multiplies by, at an index: codes times scales. -/
theorem pay_ix (x1 : Vec Ideal S24x8x512 .fp8e4m3) (x2 : Vec Ideal S24x512 .f32) (x0 : Vec Ideal S48x2048x192 .bf16) (x3 : Vec Ideal S48x512 .f32)
    (b : Fin 48) (s : Fin 2048) (d : Fin 512) :
    k0_pay1 (F := Ideal) x1 x2 x0 x3 (ix3 b s d)
      = (∑ k : Fin 192, x0 (ix3 b s k) * (x1 (ix3 ⟨k.val / 8, by omega⟩ ⟨k.val % 8, by omega⟩ d) * x2 (ix2 ⟨k.val / 8, by omega⟩ d)))
        + x3 (ix2 b d) := by
  pointwise [k0_pay1]

/-- The row gather at an index: the operand's row at the two start indices, each clamped into its axis. -/
theorem gather_ix (x : FVec Ideal S24x1024x8 .bf16) (idx : IVec S48x2048x24x2 32) (b : Fin 48) (s : Fin 2048) (l : Fin 24) (q : Fin 8)
    (l' : Fin 24) (i : Fin 1024) (hl : (idx (ix4 b s l 0)).toInt.toNat = l'.val) (hi : (idx (ix4 b s l 1)).toInt.toNat = i.val) :
    Host.gather gather_S24x1024x8_S48x2048x24x2_S48x2048x24x8_3_01_n_n_01_3_118 x idx (ix4 b s l q) = x (ix3 l' i q) := by
  unfold Host.gather
  refine congrArg x ?_
  have hsi0 : gather_S24x1024x8_S48x2048x24x2_S48x2048x24x8_3_01_n_n_01_3_118.siIdx (ix4 b s l q) ⟨0, by decide⟩ = ix4 b s l 0 := by
    funext a
    apply Fin.ext
    match a with
    | ⟨0, _⟩ => rfl
    | ⟨1, _⟩ => rfl
    | ⟨2, _⟩ => rfl
    | ⟨3, _⟩ => rfl
  have hsi1 : gather_S24x1024x8_S48x2048x24x2_S48x2048x24x8_3_01_n_n_01_3_118.siIdx (ix4 b s l q) ⟨1, by decide⟩ = ix4 b s l 1 := by
    funext a
    apply Fin.ext
    match a with
    | ⟨0, _⟩ => rfl
    | ⟨1, _⟩ => rfl
    | ⟨2, _⟩ => rfl
    | ⟨3, _⟩ => rfl
  funext a
  apply Fin.ext
  match a with
  | ⟨0, _⟩ =>
    show min (idx (gather_S24x1024x8_S48x2048x24x2_S48x2048x24x8_3_01_n_n_01_3_118.siIdx (ix4 b s l q) ⟨0, by decide⟩)).toInt.toNat 23 + 0 + 0 = l'.val
    rw [hsi0, hl]
    have := l'.isLt
    omega
  | ⟨1, _⟩ =>
    show min (idx (gather_S24x1024x8_S48x2048x24x2_S48x2048x24x8_3_01_n_n_01_3_118.siIdx (ix4 b s l q) ⟨1, by decide⟩)).toInt.toNat 1023 + 0 + 0 = i.val
    rw [hsi1, hi]
    have := i.isLt
    omega
  | ⟨2, _⟩ =>
    show 0 + 0 + q.val = q.val
    omega

/-- The pair of start indices: the level, then the code. -/
theorem cat_ix0 (x y : IVec S48x2048x24x1 32) (b : Fin 48) (s : Fin 2048) (l : Fin 24) :
    concatenate S48x2048x24x2 3 [⟨S48x2048x24x1, x⟩, ⟨S48x2048x24x1, y⟩] concatenates_S48x2048x24x1_S48x2048x24x1_S48x2048x24x2_d3 (ix4 b s l 0)
      = x (ix4 b s l 0) := by
  refine concatenate_pair_apply_left (t := S48x2048x24x2) 3 x y _ (ix4 b s l 0) rfl (ix4 b s l 0) fun a => ?_
  match a with
  | ⟨0, _⟩ => rfl
  | ⟨1, _⟩ => rfl
  | ⟨2, _⟩ => rfl
  | ⟨3, _⟩ => rfl

/-- The second entry of the concatenated index pairs is that of the second array. -/
theorem cat_ix1 (x y : IVec S48x2048x24x1 32) (b : Fin 48) (s : Fin 2048) (l : Fin 24) :
    concatenate S48x2048x24x2 3 [⟨S48x2048x24x1, x⟩, ⟨S48x2048x24x1, y⟩] concatenates_S48x2048x24x1_S48x2048x24x1_S48x2048x24x2_d3 (ix4 b s l 1)
      = y (ix4 b s l 0) := by
  refine concatenate_pair_apply_right (t := S48x2048x24x2) 3 x y _ (ix4 b s l 1) rfl rfl (ix4 b s l 0) (fun a ha => ?_) rfl
  match a with
  | ⟨0, _⟩ => rfl
  | ⟨1, _⟩ => rfl
  | ⟨2, _⟩ => rfl
  | ⟨3, _⟩ => exact absurd rfl ha

/-- What an active level selects, else zero. -/
theorem active_ix (l : Fin 24) (n : Fin 25) (w : BitVec 32) (hw : w = BitVec.ofNat 32 n.val) (x : EReal) :
    Scalar.select (IntOp.cmpi .slt (BitVec.ofNat 32 l.val) w) x 0 = if l.val < n.val then x else 0 := by
  rw [hw, Rvq.slt_level]
  split <;> rfl

/-- A level is not negative: it is kept. -/
theorem level_kept : ∀ l : Fin 24,
    (Scalar.select (IntOp.cmpi .slt (BitVec.ofNat 32 l.val) 0#32) (IntOp.addi (BitVec.ofNat 32 l.val) 24#32) (BitVec.ofNat 32 l.val) : BitVec 32).toInt.toNat
      = l.val := by
  decide +kernel

/-- A code that is not negative is kept. -/
theorem code_kept (w : BitVec 32) (h0 : 0 ≤ w.toInt) (h1 : w.toInt < 1024) :
    (Scalar.select (IntOp.cmpi .slt w 0#32) (IntOp.addi w 1024#32) w : BitVec 32).toInt.toNat = w.toNat % 1024 := by
  have hc : IntOp.cmpi .slt w 0#32 = 0#1 := by
    have hne : IntOp.cmpi .slt w 0#32 ≠ 1#1 := fun e => by
      have := IntOp.cmpi_slt.1 e
      simp at this
      omega
    revert hne
    generalize IntOp.cmpi .slt w 0#32 = v
    revert v
    decide
  rw [hc]
  show w.toInt.toNat = _
  simp only [BitVec.toInt] at h0 h1 ⊢
  split at h1 <;> split <;> omega

variable (m : (ℓ : Loc nD τ sig) → Buf (Elt Ideal) ℓ)

/-- The array of summed biases. -/
theorem V_bias (c : Dev nD) (na : IVec S48 32) (bias : FVec Ideal S24x512 .f32) (hna : m ((c : Thread nD τ).loc main_arg1) = na)
    (hbias : m ((c : Thread nD τ).loc main_arg5) = bias) (b : Fin 48) (n : Fin 25) (hn : na (ix1 b) = BitVec.ofNat 32 n.val) (d : Fin 512) :
    (V m c main_v29 : FVec Ideal S48x512 .f32) (ix2 b d) = ∑ l : Fin 24, if l.val < n.val then bias (ix2 l d) else 0 := by
  unfold V
  simp only [List.flatten_cons, List.flatten_nil, List.append_nil]
  after_reads_at
  refine Finset.sum_congr rfl fun l _ => ?_
  subst hna hbias
  exact active_ix l n _ hn _

/-- The array of start indices' levels. -/
theorem V_level (c : Dev nD) (b : Fin 48) (s : Fin 2048) (l : Fin 24) :
    ((StableHlo.upto (hostOps0 ++ (hostOps0_1 ++ (hostOps0_2 ++ (hostOps0_3 ++ hostOps0_4)))) (fun b => m (c, b)) 25 (Proc.tc.devRef main_v19) :
      IVec S48x2048x24x1 32) (ix4 b s l 0)).toInt.toNat = l.val := by
  after_reads_at
  exact level_kept l

/-- The array of start indices' codes. -/
theorem V_code (c : Dev nD) (cod : IVec S48x2048x24 32) (hcod : m ((c : Thread nD τ).loc main_arg0) = cod) (b : Fin 48) (s : Fin 2048) (l : Fin 24)
    (h0 : 0 ≤ (cod (ix3 b s l)).toInt) (h1 : (cod (ix3 b s l)).toInt < 1024) :
    ((StableHlo.upto (hostOps0 ++ (hostOps0_1 ++ (hostOps0_2 ++ (hostOps0_3 ++ hostOps0_4)))) (fun b => m (c, b)) 25 (Proc.tc.devRef main_v20) :
      IVec S48x2048x24x1 32) (ix4 b s l 0)).toInt.toNat = (cod (ix3 b s l)).toNat % 1024 := by
  after_reads_at
  subst hcod
  exact code_kept _ h0 h1

/-- The array of embeddings. -/
theorem V_emb (c : Dev nD) (cod : IVec S48x2048x24 32) (na : IVec S48 32) (cb : IVec S24x1024x8 16) (hcod : m ((c : Thread nD τ).loc main_arg0) = cod)
    (hna : m ((c : Thread nD τ).loc main_arg1) = na) (hcb : m ((c : Thread nD τ).loc main_arg2) = cb)
    (h0 : ∀ i, 0 ≤ (cod i).toInt) (h1 : ∀ i, (cod i).toInt < 1024) (b : Fin 48) (n : Fin 25) (hn : na (ix1 b) = BitVec.ofNat 32 n.val)
    (s : Fin 2048) (k : Fin 192) :
    (V m c main_v25 : FVec Ideal S48x2048x192 .bf16) (ix3 b s k)
      = Ideal.ofBits .bf16 (Rvq.codeWord n.val (fun l q i => cb (ix3 l i q)) (fun l => cod (ix3 b s l)) k) := by
  unfold V
  simp only [List.flatten_cons, List.flatten_nil, List.append_nil]
  after_reads_at
  rw [gather_ix _ _ b s _ _ ⟨k.val / 8, by omega⟩ ⟨(cod (ix3 b s ⟨k.val / 8, by omega⟩)).toNat % 1024, Nat.mod_lt _ (by decide)⟩
    ((congrArg (fun w : BitVec 32 => w.toInt.toNat) (cat_ix0 _ _ b s _)).trans (V_level m c b s _))
    ((congrArg (fun w : BitVec 32 => w.toInt.toNat) (cat_ix1 _ _ b s _)).trans (V_code m c cod hcod b s _ (h0 _) (h1 _)))]
  subst hna hcb
  refine (active_ix ⟨k.val / 8, by omega⟩ n _ hn _).trans ?_
  unfold Rvq.codeWord
  split
  · rfl
  · exact Ideal.ofBits_zero_bf16.symm

/-- A block of the one point is its whole array: window 0's, the embeddings. -/
theorem iblk0_ix (c : Dev nD) (t : Fin cfg0.N) (b : Fin 48) (s : Fin 2048) (k : Fin 192) :
    (iblk m c 0 t : FVec Ideal S48x2048x192 .bf16) (ix3 b s k) = (V m c main_v25 : FVec Ideal S48x2048x192 .bf16) (ix3 b s k) := by
  show V m c main_v25 (((cfg0.win 0).blk t).view.emb (ix3 b s k)) = V m c main_v25 (ix3 b s k)
  refine congrArg (V m c main_v25) ?_
  funext a
  apply Fin.ext
  match a with
  | ⟨0, _⟩ => show 0 * 48 + 1 * b.val = b.val; omega
  | ⟨1, _⟩ => show 0 * 2048 + 1 * s.val = s.val; omega
  | ⟨2, _⟩ => show 0 * 192 + 1 * k.val = k.val; omega

/-- Window 1's, the projection's codes. -/
theorem iblk1_ix (c : Dev nD) (t : Fin cfg0.N) (l : Fin 24) (q : Fin 8) (d : Fin 512) :
    (iblk m c 1 t : FVec Ideal S24x8x512 .fp8e4m3) (ix3 l q d) = (m ((c : Thread nD τ).loc main_arg3) : FVec Ideal S24x8x512 .fp8e4m3) (ix3 l q d) := by
  refine Eq.trans ?_ (congrFun (V_main_arg3 m c) (ix3 l q d))
  show V m c main_arg3 (((cfg0.win 1).blk t).view.emb (ix3 l q d)) = V m c main_arg3 (ix3 l q d)
  refine congrArg (V m c main_arg3) ?_
  funext a
  apply Fin.ext
  match a with
  | ⟨0, _⟩ => show 0 * 24 + 1 * l.val = l.val; omega
  | ⟨1, _⟩ => show 0 * 8 + 1 * q.val = q.val; omega
  | ⟨2, _⟩ => show 0 * 512 + 1 * d.val = d.val; omega

/-- Window 2's, the projection's scales. -/
theorem iblk2_ix (c : Dev nD) (t : Fin cfg0.N) (l : Fin 24) (d : Fin 512) :
    (iblk m c 2 t : FVec Ideal S24x512 .f32) (ix2 l d) = (m ((c : Thread nD τ).loc main_arg4) : FVec Ideal S24x512 .f32) (ix2 l d) := by
  refine Eq.trans ?_ (congrFun (V_main_arg4 m c) (ix2 l d))
  show V m c main_arg4 (((cfg0.win 2).blk t).view.emb (ix2 l d)) = V m c main_arg4 (ix2 l d)
  refine congrArg (V m c main_arg4) ?_
  funext a
  apply Fin.ext
  match a with
  | ⟨0, _⟩ => show 0 * 24 + 1 * l.val = l.val; omega
  | ⟨1, _⟩ => show 0 * 512 + 1 * d.val = d.val; omega

/-- Window 3's, the summed biases. -/
theorem iblk3_ix (c : Dev nD) (t : Fin cfg0.N) (b : Fin 48) (d : Fin 512) :
    (iblk m c 3 t : FVec Ideal S48x512 .f32) (ix2 b d) = (V m c main_v29 : FVec Ideal S48x512 .f32) (ix2 b d) := by
  show V m c main_v29 (((cfg0.win 3).blk t).view.emb (ix2 b d)) = V m c main_v29 (ix2 b d)
  refine congrArg (V m c main_v29) ?_
  funext a
  apply Fin.ext
  match a with
  | ⟨0, _⟩ => show 0 * 48 + 1 * b.val = b.val; omega
  | ⟨1, _⟩ => show 0 * 512 + 1 * d.val = d.val; omega

/-- What the body leaves in the result's block, over its inputs' blocks. -/
theorem out_eq (x0 : Vec Ideal S48x2048x192 .bf16) (x1 : Vec Ideal S24x8x512 .fp8e4m3) (x2 : Vec Ideal S24x512 .f32) (x3 : Vec Ideal S48x512 .f32) :
    out0_4 (F := Ideal) x0 x1 x2 x3 = k0_pay1 x1 x2 x0 x3 := by
  unfold out0_4
  frame_out

/-- The block of the result, at an index: the shared function of the arguments. -/
theorem out_ix (c : Dev nD) (t : Fin cfg0.N) (cod : IVec S48x2048x24 32) (na : IVec S48 32) (cb : IVec S24x1024x8 16)
    (pc : FVec Ideal S24x8x512 .fp8e4m3) (ps bias : FVec Ideal S24x512 .f32)
    (hcod : m ((c : Thread nD τ).loc main_arg0) = cod) (hna : m ((c : Thread nD τ).loc main_arg1) = na) (hcb : m ((c : Thread nD τ).loc main_arg2) = cb)
    (hpc : m ((c : Thread nD τ).loc main_arg3) = pc) (hps : m ((c : Thread nD τ).loc main_arg4) = ps) (hbias : m ((c : Thread nD τ).loc main_arg5) = bias)
    (h0 : ∀ i, 0 ≤ (cod i).toInt ∧ (cod i).toInt < 1024) (h1 : ∀ i, 0 ≤ (na i).toInt ∧ (na i).toInt ≤ 24)
    (b : Fin 48) (s : Fin 2048) (d : Fin 512) :
    k0_pay1 (F := Ideal) (iblk m c 1 t) (iblk m c 2 t) (iblk m c 0 t) (iblk m c 3 t) (ix3 b s d) = Rvq.result cod na cb pc ps bias b s d := by
  obtain ⟨n, hn⟩ := PreWords.word_of_bounds _ (h1 (ix1 b)).1 (h1 (ix1 b)).2
  have hnat : (na (ix1 b)).toNat = n.val := by
    rw [hn, BitVec.toNat_ofNat]
    have := n.isLt
    omega
  refine (pay_ix _ _ _ _ b s d).trans ?_
  unfold Rvq.result Rvq.elem
  rw [hnat]
  refine congrArg₂ (fun x y : EReal => x + y) (Finset.sum_congr rfl fun k _ => ?_) ?_
  · refine congrArg₂ (fun x y : EReal => x * y) ?_ (congrArg₂ (fun x y : EReal => x * y) ?_ ?_)
    · exact (iblk0_ix m c t b s k).trans (V_emb m c cod na cb hcod hna hcb (fun i => (h0 i).1) (fun i => (h0 i).2) b n hn s k)
    · exact (iblk1_ix m c t _ _ d).trans (congrFun hpc _)
    · exact (iblk2_ix m c t _ d).trans (congrFun hps _)
  · exact (iblk3_ix m c t b d).trans (V_bias m c na bias hna hbias b n hn d)

/-- Where the block of the result lies in its array. -/
theorem emb4 (t : Fin cfg0.N) (y : S48x2048x512.Idx) : ((cfg0.win 4).blk t).view.emb y = y := by
  funext a
  apply Fin.ext
  match a with
  | ⟨0, _⟩ => show 0 * 48 + 1 * (y 0).val = (y 0).val; omega
  | ⟨1, _⟩ => show 0 * 2048 + 1 * (y 1).val = (y 1).val; omega
  | ⟨2, _⟩ => show 0 * 512 + 1 * (y 2).val = (y 2).val; omega

/-- Every position of the result is in the one block. -/
theorem cover4 (i : S48x2048x512.Idx) : ∃ t : Fin cfg0.N, (cfg0.win 4).flush t = true ∧ i ∈ ((cfg0.win 4).blk t).view.set :=
  ⟨t0_0, (by decide +kernel : win0_4.flush t0_0 = true), emb4 t0_0 i ▸ View.emb_mem_set ((cfg0.win 4).blk t0_0).view i⟩

/-- The shared function of the arguments, as an array. -/
def resultArr (cod : IVec S48x2048x24 32) (na : IVec S48 32) (cb : IVec S24x1024x8 16)
    (pc : FVec Ideal S24x8x512 .fp8e4m3) (ps bias : FVec Ideal S24x512 .f32) : S48x2048x512.Idx → EReal :=
  fun j => Rvq.result cod na cb pc ps bias (j 0) (j 1) (j 2)

/-- What the body leaves in the result's block is that array at the block's position. -/
theorem block4 (c : Dev nD) (t : Fin cfg0.N) (cod : IVec S48x2048x24 32) (na : IVec S48 32) (cb : IVec S24x1024x8 16)
    (pc : FVec Ideal S24x8x512 .fp8e4m3) (ps bias : FVec Ideal S24x512 .f32)
    (hcod : m ((c : Thread nD τ).loc main_arg0) = cod) (hna : m ((c : Thread nD τ).loc main_arg1) = na) (hcb : m ((c : Thread nD τ).loc main_arg2) = cb)
    (hpc : m ((c : Thread nD τ).loc main_arg3) = pc) (hps : m ((c : Thread nD τ).loc main_arg4) = ps) (hbias : m ((c : Thread nD τ).loc main_arg5) = bias)
    (h0 : ∀ i, 0 ≤ (cod i).toInt ∧ (cod i).toInt < 1024) (h1 : ∀ i, 0 ≤ (na i).toInt ∧ (na i).toInt ≤ 24) (y : S48x2048x512.Idx) :
    out0_4 (F := Ideal) (iblk m c 0 t) (iblk m c 1 t) (iblk m c 2 t) (iblk m c 3 t) y
      = resultArr cod na cb pc ps bias (((cfg0.win 4).blk t).view.emb y) := by
  have e := out_ix m c t cod na cb pc ps bias hcod hna hcb hpc hps hbias h0 h1 (y 0) (y 1) (y 2)
  have ey : ix3 (y 0) (y 1) (y 2) = y := (eq_ix3 y).symm
  refine (congrFun (out_eq (iblk m c 0 t) (iblk m c 1 t) (iblk m c 2 t) (iblk m c 3 t)) y).trans ?_
  refine ((congrArg (k0_pay1 (F := Ideal) (iblk m c 1 t) (iblk m c 2 t) (iblk m c 0 t) (iblk m c 3 t)) ey.symm).trans e).trans ?_
  exact congrArg (resultArr cod na cb pc ps bias) (emb4 t y).symm

/-- After the run the result's array is the shared function of the arguments. -/
theorem final4 (c : Dev nD) (cod : IVec S48x2048x24 32) (na : IVec S48 32) (cb : IVec S24x1024x8 16)
    (pc : FVec Ideal S24x8x512 .fp8e4m3) (ps bias : FVec Ideal S24x512 .f32)
    (hcod : m ((c : Thread nD τ).loc main_arg0) = cod) (hna : m ((c : Thread nD τ).loc main_arg1) = na) (hcb : m ((c : Thread nD τ).loc main_arg2) = cb)
    (hpc : m ((c : Thread nD τ).loc main_arg3) = pc) (hps : m ((c : Thread nD τ).loc main_arg4) = ps) (hbias : m ((c : Thread nD τ).loc main_arg5) = bias)
    (h0 : ∀ i, 0 ≤ (cod i).toInt ∧ (cod i).toInt < 1024) (h1 : ∀ i, 0 ≤ (na i).toInt ∧ (na i).toInt ≤ 24) :
    (dats m 0 c).arrAt 4 cfg0.N = resultArr cod na cb pc ps bias := by
  have hG : ∀ t : Fin cfg0.N, (cfg0.win 4).flush t = true → ∀ y : ((cfg0.win 4).xblock (cfg0.grid.coords t)).Idx,
      _root_.cast (congrArg (Elt Ideal) ((cfg0.win 4).blk t).view.elt_eq.symm) ((dats m 0 c).after 4 t ((cfg0.win 4).xinj (cfg0.grid.coords t) y))
        = resultArr cod na cb pc ps bias (((cfg0.win 4).blk t).view.emb y) := by
    intro t _ y
    have hb : ∀ y : S48x2048x512.Idx, (dats m 0 c).after 4 t y = resultArr cod na cb pc ps bias (((cfg0.win 4).blk t).view.emb y) := fun y =>
      (congrFun (after0_4 m c t) y).trans (block4 m c t cod na cb pc ps bias hcod hna hcb hpc hps hbias h0 h1 y)
    generalize (dats m 0 c).after 4 t = f at hb ⊢
    exact hb y
  have hC : ∀ i : S48x2048x512.Idx, ∃ t : Fin cfg0.N, (cfg0.win 4).flush t = true ∧ i ∈ ((cfg0.win 4).blk t).view.set := cover4
  exact (dats m 0 c).arrAt_eq_of_emb 4 (resultArr cod na cb pc ps bias) hG hC

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range
public import proofs.«01_k».proof.Proof.Gen.ReferenceIdeal.Value
public import proofs.«01_k».proof.Proof.KHyps
public import proofs.«01_k».proof.Proof.KiHyps
public import proofs.«01_k».proof.Proof.KiFrame
public import proofs.«01_k».proof.Proof.KiArr
public import proofs.«01_k».proof.Proof.RiVal
public import Idealize.ShloMosaic.Adequacy
public import Idealize.ShloMosaic.Init

@[expose] public section

noncomputable section

namespace Cert.Proof

open Idealize.ShloMosaic Idealize.SL.Sem

/-- From memories that agree on the arguments, the idealized kernel and the idealized reference end with the same result: each
    is the shared function of the arguments, and the precondition bounds the codes and the counts of active levels. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' h hargs
  refine ⟨fun c => Cert.KernelIdeal.Gen.resultArr m c, Cert.KernelIdeal.Gen.run_value m g h, ?_⟩
  refine (θ_run Cert.ReferenceIdeal.defs _ _).mono (fun r hr c => ⟨(hr c).1.trans ?_, (hr c).2⟩) (Cert.ReferenceIdeal.Value.run_blocks m' g')
  obtain ⟨e0, e1, e2, e3, e4, e5⟩ := hargs c
  have hb := Cert.PreWords.bounds _ _ _ _ _ _ (h c)
  exact Cert.ReferenceIdeal.Value.final4 m' c _ _ _ _ _ _ e0 e1 e2 e3 e4 e5 hb.1 hb.2

/-- Every claim of the certificate. -/
theorem claim : Cert.Claim := ⟨Cert.Kernel.Gen.facts, Cert.KernelIdeal.Gen.facts, Cert.ReferenceIdeal.Gen.facts, Cert.Pre_in_range.Gen.facts,
  fun m ρ h => Cert.Kernel.Gen.frame m ρ (Cert.Kernel.Gen.ok_of_pre m) (Cert.Kernel.Gen.hyps_of_pre m h _),
  fun m ρ h => Cert.KernelIdeal.Gen.frame m ρ (Cert.KernelIdeal.Gen.ok_of_pre m)
    (fun c t => Cert.KernelIdeal.Gen.word_of_pre m h c _),
  fun m ρ _ => Cert.ReferenceIdeal.Gen.frame m ρ,
  trivial,
  algebraic⟩

end Cert.Proof

end
